-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_of_the_table_KernelIdeal [hPre_rows_of_the_table_KernelIdeal : Cert.Pre_rows_of_the_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_rows_of_the_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_of_the_table_ReferenceIdeal [hPre_rows_of_the_table_ReferenceIdeal : Cert.Pre_rows_of_the_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_of_the_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rows_of_the_table_KernelIdeal [hKernelIdeal : Cert.KernelIdeal.Facts] [hPre_rows_of_the_table_KernelIdeal : Cert.Pre_rows_of_the_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_of_the_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_of_the_table_ReferenceIdeal [hReferenceIdeal : Cert.ReferenceIdeal.Facts] [hPre_rows_of_the_table_ReferenceIdeal : Cert.Pre_rows_of_the_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_of_the_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rows_of_the_table_KernelIdeal [hKernelIdeal : Cert.KernelIdeal.Facts] [hReferenceIdeal : Cert.ReferenceIdeal.Facts] [hPre_rows_of_the_table_KernelIdeal : Cert.Pre_rows_of_the_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_of_the_table_KernelIdeal m →
    (∀ c : Dev Cert.KernelIdeal.nD,
      m ((c.tc : Thread Cert.KernelIdeal.nD Cert.KernelIdeal.τ).loc Cert.KernelIdeal.main_arg0) = Layout.block ⟨2, ![16384, 1024]⟩ ⟨2, ![65536, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rows_of_the_table_KernelIdeal : Cert.Pre_rows_of_the_table_KernelIdeal.Facts) (hPre_rows_of_the_table_ReferenceIdeal : Cert.Pre_rows_of_the_table_ReferenceIdeal.Facts),
    quiescent_Kernel (hKernel := hKernel)
    ∧ quiescent_KernelIdeal (hKernelIdeal := hKernelIdeal)
    ∧ quiescent_KernelIdeal_pre_rows_of_the_table_KernelIdeal (hKernelIdeal := hKernelIdeal) (hPre_rows_of_the_table_KernelIdeal := hPre_rows_of_the_table_KernelIdeal)
    ∧ quiescent_ReferenceIdeal (hReferenceIdeal := hReferenceIdeal)
    ∧ quiescent_ReferenceIdeal_pre_rows_of_the_table_ReferenceIdeal (hReferenceIdeal := hReferenceIdeal) (hPre_rows_of_the_table_ReferenceIdeal := hPre_rows_of_the_table_ReferenceIdeal)
    ∧ preserves_Kernel_KernelIdeal
    ∧ algebraic_KernelIdeal_ReferenceIdeal_pre_rows_of_the_table_KernelIdeal (hKernelIdeal := hKernelIdeal) (hReferenceIdeal := hReferenceIdeal) (hPre_rows_of_the_table_KernelIdeal := hPre_rows_of_the_table_KernelIdeal)
-- ==== Pre_rows_of_the_table_KernelIdeal.lean ====
abbrev S16384x1024 : Shape := ⟨2, ![16384, 1024]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S16384x1024 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 65536#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Pre_rows_of_the_table_ReferenceIdeal.lean ====
abbrev S65536x1024 : Shape := ⟨2, ![65536, 1024]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S65536x1024 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 65536#32
  let main_v2 : IVec S2048 32 := broadcastInDim S2048 ![] bcast_S_S2048 main_c_0
  let main_v3 : IVec S2048 1 := cmpi .slt main_arg1 main_v2
  let main_v4 : IVec S2048 1 := andi main_v1 main_v3
  main_v4
-- ==== Kernel.lean ====
abbrev S16384x1024 : Shape := ⟨2, ![16384, 1024]⟩
abbrev S2048 : Shape := ⟨1, ![2048]⟩
abbrev S2048x1024 : Shape := ⟨2, ![2048, 1024]⟩
abbrev S3x512x1024 : Shape := ⟨3, ![3, 512, 1024]⟩
abbrev S_ : Shape := ⟨0, ![]⟩
abbrev S6 : Shape := ⟨1, ![6]⟩
abbrev S1 : Shape := ⟨1, ![1]⟩
abbrev S1x1024 : Shape := ⟨2, ![1, 1024]⟩
abbrev S1024 : Shape := ⟨1, ![1024]⟩
abbrev S1x512x1024 : Shape := ⟨3, ![1, 512, 1024]⟩
abbrev S512x1024 : Shape := ⟨2, ![512, 1024]⟩

abbrev nBuf : Space → Nat
  | .hbm => 3
  | .vmem => 3
  | .smem => 1
  | _ => 0

abbrev bufTy : (tb : Table) → Fin (tcTables nBuf tb) → BufTy
  | .hbm, ⟨0, _⟩ => ⟨S16384x1024, .f32⟩
  | .hbm, ⟨1, _⟩ => ⟨S2048, .i32⟩
  | .hbm, ⟨2, _⟩ => ⟨S2048x1024, .bf16⟩
  | .local _ .vmem, ⟨0, _⟩ => ⟨S2048x1024, .bf16⟩
  | .local _ .vmem, ⟨1, _⟩ => ⟨S2048x1024, .f32⟩
  | .local _ .vmem, ⟨2, _⟩ => ⟨S3x512x1024, .bf16⟩
  | .local _ .smem, ⟨0, _⟩ => ⟨S2048, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v27 : BitVec 32 := Scalar.muli v13 c1_i32_14
  let v28 : BitVec 32 := Scalar.addi c0_i32_15 v27
  v28.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v29 : BitVec 32 := Scalar.muli v24 c1_i32_17
  let v30 : BitVec 32 := Scalar.addi c0_i32_18 v29
  v30.toNat
@[reducible] def k0_t1_loop : Scf.Loop 32 :=
  let c0_i32_20 : BitVec 32 := 0#32
  let c128_i32 : BitVec 32 := 128#32
  let v35 : BitVec 32 := Scalar.addi c0_i32_20 c128_i32
  let c1_i32_21 : BitVec 32 := 1#32
  ⟨c0_i32_20, v35, c1_i32_21⟩
def k0_off1 (k0_t1 : Fin k0_t1_loop.trips) : Fin 1 → Nat :=
  let c0_i32_20 : BitVec 32 := 0#32
  let c1_i32_21 : BitVec 32 := 1#32
  let arg8 : BitVec 32 := Scf.iv c0_i32_20 c1_i32_21 k0_t1
  let v328 : Index := Scalar.indexCast arg8
  ![v328.toNat]
def k0_off2 (k0_t1 : Fin k0_t1_loop.trips) : Fin 2 → Nat :=
  let c0_i32_20 : BitVec 32 := 0#32
  let c1_i32_21 : BitVec 32 := 1#32
  let arg8 : BitVec 32 := Scf.iv c0_i32_20 c1_i32_21 k0_t1
  let c0_i32_353 : BitVec 32 := 0#32
  ![arg8.toNat, 0]
def k0_off3 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond1 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk1 (d0 : Dev nD) (v329 : BitVec 32) : Prop :=
  (∀ (k0_h1 : k0_cond1 d0 v329 = 1#1), ∀ a, (k0_off3 d0 v329) a + S1x1024.size a ≤ S16384x1024.size a)
theorem k0_off3_inb : ∀ (d0 : Dev nD) (v329 : BitVec 32) (k0_hw1 : k0_chk1 d0 v329), ∀ (k0_h1 : k0_cond1 d0 v329 = 1#1), ∀ a, (k0_off3 d0 v329) a + S1x1024.size a ≤ S16384x1024.size a := fun d0 v329 k0_hw1 k0_h1 => k0_hw1 k0_h1

@[reducible] def k0_t2_loop : Scf.Loop 32 :=
  let c128_i32_23 : BitVec 32 := 128#32
  let c128_i32_24 : BitVec 32 := 128#32
  let v36 : BitVec 32 := Scalar.addi c128_i32_23 c128_i32_24
  let c1_i32_25 : BitVec 32 := 1#32
  ⟨c128_i32_23, v36, c1_i32_25⟩
def k0_off4 (k0_t2 : Fin k0_t2_loop.trips) : Fin 1 → Nat :=
  let c128_i32_23 : BitVec 32 := 128#32
  let c1_i32_25 : BitVec 32 := 1#32
  let arg8 : BitVec 32 := Scf.iv c128_i32_23 c1_i32_25 k0_t2
  let v328 : Index := Scalar.indexCast arg8
  ![v328.toNat]
def k0_off5 (k0_t2 : Fin k0_t2_loop.trips) : Fin 2 → Nat :=
  let c128_i32_23 : BitVec 32 := 128#32
  let c1_i32_25 : BitVec 32 := 1#32
  let arg8 : BitVec 32 := Scf.iv c128_i32_23 c1_i32_25 k0_t2
  let c0_i32_353 : BitVec 32 := 0#32
  ![arg8.toNat, 0]
def k0_off6 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond2 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk2 (d0 : Dev nD) (v329 : BitVec 32) : Prop :=
  (∀ (k0_h2 : k0_cond2 d0 v329 = 1#1), ∀ a, (k0_off6 d0 v329) a + S1x1024.size a ≤ S16384x1024.size a)
theorem k0_off6_inb : ∀ (d0 : Dev nD) (v329 : BitVec 32) (k0_hw2 : k0_chk2 d0 v329), ∀ (k0_h2 : k0_cond2 d0 v329 = 1#1), ∀ a, (k0_off6 d0 v329) a + S1x1024.size a ≤ S16384x1024.size a := fun d0 v329 k0_hw2 k0_h2 => k0_hw2 k0_h2

@[reducible] def k0_t3_loop : Scf.Loop 32 :=
  let c0_i32_27 : BitVec 32 := 0#32
  let c128_i32_28 : BitVec 32 := 128#32
  let v37 : BitVec 32 := Scalar.addi c0_i32_27 c128_i32_28
  let c1_i32_29 : BitVec 32 := 1#32
  ⟨c0_i32_27, v37, c1_i32_29⟩
def k0_off7 (k0_t3 : Fin k0_t3_loop.trips) : Fin 1 → Nat :=
  let c0_i32_27 : BitVec 32 := 0#32
  let c1_i32_29 : BitVec 32 := 1#32
  let arg8 : BitVec 32 := Scf.iv c0_i32_27 c1_i32_29 k0_t3
  let v328 : Index := Scalar.indexCast arg8
  ![v328.toNat]
def k0_off8 (k0_t3 : Fin k0_t3_loop.trips) : Fin 2 → Nat :=
  let c0_i32_27 : BitVec 32 := 0#32
  let c1_i32_29 : BitVec 32 := 1#32
  let arg8 : BitVec 32 := Scf.iv c0_i32_27 c1_i32_29 k0_t3
  let c0_i32_353 : BitVec 32 := 0#32
  ![arg8.toNat, 0]
def k0_off9 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond3 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk3 (d0 : Dev nD) (v329 : BitVec 32) : Prop :=
  (∀ (k0_h3 : k0_cond3 d0 v329 = 1#1), ∀ a, (k0_off9 d0 v329) a + S1x1024.size a ≤ S16384x1024.size a)
theorem k0_off9_inb : ∀ (d0 : Dev nD) (v329 : BitVec 32) (k0_hw3 : k0_chk3 d0 v329), ∀ (k0_h3 : k0_cond3 d0 v329 = 1#1), ∀ a, (k0_off9 d0 v329) a + S1x1024.size a ≤ S16384x1024.size a := fun d0 v329 k0_hw3 k0_h3 => k0_hw3 k0_h3

@[reducible] def k0_t4_loop : Scf.Loop 32 :=
  let c256_i32 : BitVec 32 := 256#32
  let c128_i32_31 : BitVec 32 := 128#32
  let v38 : BitVec 32 := Scalar.addi c256_i32 c128_i32_31
  let c1_i32_32 : BitVec 32 := 1#32
  ⟨c256_i32, v38, c1_i32_32⟩
def k0_off10 (k0_t4 : Fin k0_t4_loop.trips) : Fin 1 → Nat :=
  let c256_i32 : BitVec 32 := 256#32
  let c1_i32_32 : BitVec 32 := 1#32
  let arg8 : BitVec 32 := Scf.iv c256_i32 c1_i32_32 k0_t4
  let v328 : Index := Scalar.indexCast arg8
  ![v328.toNat]
def k0_off11 (k0_t4 : Fin k0_t4_loop.trips) : Fin 2 → Nat :=
  let c256_i32 : BitVec 32 := 256#32
  let c1_i32_32 : BitVec 32 := 1#32
  let arg8 : BitVec 32 := Scf.iv c256_i32 c1_i32_32 k0_t4
  let c0_i32_353 : BitVec 32 := 0#32
  ![arg8.toNat, 0]
def k0_off12 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond4 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk4 (d0 : Dev nD) (v329 : BitVec 32) : Prop :=
  (∀ (k0_h4 : k0_cond4 d0 v329 = 1#1), ∀ a, (k0_off12 d0 v329) a + S1x1024.size a ≤ S16384x1024.size a)
theorem k0_off12_inb : ∀ (d0 : Dev nD) (v329 : BitVec 32) (k0_hw4 : k0_chk4 d0 v329), ∀ (k0_h4 : k0_cond4 d0 v329 = 1#1), ∀ a, (k0_off12 d0 v329) a + S1x1024.size a ≤ S16384x1024.size a := fun d0 v329 k0_hw4 k0_h4 => k0_hw4 k0_h4

@[reducible] def k0_t5_loop : Scf.Loop 32 :=
  let c128_i32_34 : BitVec 32 := 128#32
  let c128_i32_35 : BitVec 32 := 128#32
  let v39 : BitVec 32 := Scalar.addi c128_i32_34 c128_i32_35
  let c1_i32_36 : BitVec 32 := 1#32
  ⟨c128_i32_34, v39, c1_i32_36⟩
def k0_off13 (k0_t5 : Fin k0_t5_loop.trips) : Fin 1 → Nat :=
  let c128_i32_34 : BitVec 32 := 128#32
  let c1_i32_36 : BitVec 32 := 1#32
  let arg8 : BitVec 32 := Scf.iv c128_i32_34 c1_i32_36 k0_t5
  let v328 : Index := Scalar.indexCast arg8
  ![v328.toNat]
def k0_off14 (k0_t5 : Fin k0_t5_loop.trips) : Fin 2 → Nat :=
  let c128_i32_34 : BitVec 32 := 128#32
  let c1_i32_36 : BitVec 32 := 1#32
  let arg8 : BitVec 32 := Scf.iv c128_i32_34 c1_i32_36 k0_t5
  let c0_i32_353 : BitVec 32 := 0#32
  ![arg8.toNat, 0]
def k0_off15 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond5 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk5 (d0 : Dev nD) (v329 : BitVec 32) : Prop :=
  (∀ (k0_h5 : k0_cond5 d0 v329 = 1#1), ∀ a, (k0_off15 d0 v329) a + S1x1024.size a ≤ S16384x1024.size a)
theorem k0_off15_inb : ∀ (d0 : Dev nD) (v329 : BitVec 32) (k0_hw5 : k0_chk5 d0 v329), ∀ (k0_h5 : k0_cond5 d0 v329 = 1#1), ∀ a, (k0_off15 d0 v329) a + S1x1024.size a ≤ S16384x1024.size a := fun d0 v329 k0_hw5 k0_h5 => k0_hw5 k0_h5

@[reducible] def k0_t6_loop : Scf.Loop 32 :=
  let c384_i32 : BitVec 32 := 384#32
  let c128_i32_38 : BitVec 32 := 128#32
  let v40 : BitVec 32 := Scalar.addi c384_i32 c128_i32_38
  let c1_i32_39 : BitVec 32 := 1#32
  ⟨c384_i32, v40, c1_i32_39⟩
def k0_off16 (k0_t6 : Fin k0_t6_loop.trips) : Fin 1 → Nat :=
  let c384_i32 : BitVec 32 := 384#32
  let c1_i32_39 : BitVec 32 := 1#32
  let arg8 : BitVec 32 := Scf.iv c384_i32 c1_i32_39 k0_t6
  let v328 : Index := Scalar.indexCast arg8
  ![v328.toNat]
def k0_off17 (k0_t6 : Fin k0_t6_loop.trips) : Fin 2 → Nat :=
  let c384_i32 : BitVec 32 := 384#32
  let c1_i32_39 : BitVec 32 := 1#32
  let arg8 : BitVec 32 := Scf.iv c384_i32 c1_i32_39 k0_t6
  let c0_i32_353 : BitVec 32 := 0#32
  ![arg8.toNat, 0]
def k0_off18 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond6 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk6 (d0 : Dev nD) (v329 : BitVec 32) : Prop :=
  (∀ (k0_h6 : k0_cond6 d0 v329 = 1#1), ∀ a, (k0_off18 d0 v329) a + S1x1024.size a ≤ S16384x1024.size a)
theorem k0_off18_inb : ∀ (d0 : Dev nD) (v329 : BitVec 32) (k0_hw6 : k0_chk6 d0 v329), ∀ (k0_h6 : k0_cond6 d0 v329 = 1#1), ∀ a, (k0_off18 d0 v329) a + S1x1024.size a ≤ S16384x1024.size a := fun d0 v329 k0_hw6 k0_h6 => k0_hw6 k0_h6

@[reducible] def k0_t7_loop : Scf.Loop 32 :=
  let c256_i32_41 : BitVec 32 := 256#32
  let c128_i32_42 : BitVec 32 := 128#32
  let v41 : BitVec 32 := Scalar.addi c256_i32_41 c128_i32_42
  let c1_i32_43 : BitVec 32 := 1#32
  ⟨c256_i32_41, v41, c1_i32_43⟩
def k0_off19 (k0_t7 : Fin k0_t7_loop.trips) : Fin 1 → Nat :=
  let c256_i32_41 : BitVec 32 := 256#32
  let c1_i32_43 : BitVec 32 := 1#32
  let arg8 : BitVec 32 := Scf.iv c256_i32_41 c1_i32_43 k0_t7
  let v328 : Index := Scalar.indexCast arg8
  ![v328.toNat]
def k0_off20 (k0_t7 : Fin k0_t7_loop.trips) : Fin 2 → Nat :=
  let c256_i32_41 : BitVec 32 := 256#32
  let c1_i32_43 : BitVec 32 := 1#32
  let arg8 : BitVec 32 := Scf.iv c256_i32_41 c1_i32_43 k0_t7
  let c0_i32_353 : BitVec 32 := 0#32
  ![arg8.toNat, 0]
def k0_off21 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond7 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk7 (d0 : Dev nD) (v329 : BitVec 32) : Prop :=
  (∀ (k0_h7 : k0_cond7 d0 v329 = 1#1), ∀ a, (k0_off21 d0 v329) a + S1x1024.size a ≤ S16384x1024.size a)
theorem k0_off21_inb : ∀ (d0 : Dev nD) (v329 : BitVec 32) (k0_hw7 : k0_chk7 d0 v329), ∀ (k0_h7 : k0_cond7 d0 v329 = 1#1), ∀ a, (k0_off21 d0 v329) a + S1x1024.size a ≤ S16384x1024.size a := fun d0 v329 k0_hw7 k0_h7 => k0_hw7 k0_h7

@[reducible] def k0_t8_loop : Scf.Loop 32 :=
  let c512_i32 : BitVec 32 := 512#32
  let c128_i32_45 : BitVec 32 := 128#32
  let v42 : BitVec 32 := Scalar.addi c512_i32 c128_i32_45
  let c1_i32_46 : BitVec 32 := 1#32
  ⟨c512_i32, v42, c1_i32_46⟩
def k0_off22 (k0_t8 : Fin k0_t8_loop.trips) : Fin 1 → Nat :=
  let c512_i32 : BitVec 32 := 512#32
  let c1_i32_46 : BitVec 32 := 1#32
  let arg8 : BitVec 32 := Scf.iv c512_i32 c1_i32_46 k0_t8
  let v328 : Index := Scalar.indexCast arg8
  ![v328.toNat]
def k0_off23 (k0_t8 : Fin k0_t8_loop.trips) : Fin 2 → Nat :=
  let c512_i32 : BitVec 32 := 512#32
  let c1_i32_46 : BitVec 32 := 1#32
  let arg8 : BitVec 32 := Scf.iv c512_i32 c1_i32_46 k0_t8
  let c0_i32_353 : BitVec 32 := 0#32
  ![arg8.toNat, 0]
def k0_off24 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond8 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk8 (d0 : Dev nD) (v329 : BitVec 32) : Prop :=
  (∀ (k0_h8 : k0_cond8 d0 v329 = 1#1), ∀ a, (k0_off24 d0 v329) a + S1x1024.size a ≤ S16384x1024.size a)
theorem k0_off24_inb : ∀ (d0 : Dev nD) (v329 : BitVec 32) (k0_hw8 : k0_chk8 d0 v329), ∀ (k0_h8 : k0_cond8 d0 v329 = 1#1), ∀ a, (k0_off24 d0 v329) a + S1x1024.size a ≤ S16384x1024.size a := fun d0 v329 k0_hw8 k0_h8 => k0_hw8 k0_h8

@[reducible] def k0_t9_loop : Scf.Loop 32 :=
  let c384_i32_48 : BitVec 32 := 384#32
  let c128_i32_49 : BitVec 32 := 128#32
  let v43 : BitVec 32 := Scalar.addi c384_i32_48 c128_i32_49
  let c1_i32_50 : BitVec 32 := 1#32
  ⟨c384_i32_48, v43, c1_i32_50⟩
def k0_off25 (k0_t9 : Fin k0_t9_loop.trips) : Fin 1 → Nat :=
  let c384_i32_48 : BitVec 32 := 384#32
  let c1_i32_50 : BitVec 32 := 1#32
  let arg8 : BitVec 32 := Scf.iv c384_i32_48 c1_i32_50 k0_t9
  let v328 : Index := Scalar.indexCast arg8
  ![v328.toNat]
def k0_off26 (k0_t9 : Fin k0_t9_loop.trips) : Fin 2 → Nat :=
  let c384_i32_48 : BitVec 32 := 384#32
  let c1_i32_50 : BitVec 32 := 1#32
  let arg8 : BitVec 32 := Scf.iv c384_i32_48 c1_i32_50 k0_t9
  let c0_i32_353 : BitVec 32 := 0#32
  ![arg8.toNat, 0]
def k0_off27 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond9 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk9 (d0 : Dev nD) (v329 : BitVec 32) : Prop :=
  (∀ (k0_h9 : k0_cond9 d0 v329 = 1#1), ∀ a, (k0_off27 d0 v329) a + S1x1024.size a ≤ S16384x1024.size a)
theorem k0_off27_inb : ∀ (d0 : Dev nD) (v329 : BitVec 32) (k0_hw9 : k0_chk9 d0 v329), ∀ (k0_h9 : k0_cond9 d0 v329 = 1#1), ∀ a, (k0_off27 d0 v329) a + S1x1024.size a ≤ S16384x1024.size a := fun d0 v329 k0_hw9 k0_h9 => k0_hw9 k0_h9

@[reducible] def k0_t10_loop : Scf.Loop 32 :=
  let c640_i32 : BitVec 32 := 640#32
  let c128_i32_52 : BitVec 32 := 128#32
  let v44 : BitVec 32 := Scalar.addi c640_i32 c128_i32_52
  let c1_i32_53 : BitVec 32 := 1#32
  ⟨c640_i32, v44, c1_i32_53⟩
def k0_off28 (k0_t10 : Fin k0_t10_loop.trips) : Fin 1 → Nat :=
  let c640_i32 : BitVec 32 := 640#32
  let c1_i32_53 : BitVec 32 := 1#32
  let arg8 : BitVec 32 := Scf.iv c640_i32 c1_i32_53 k0_t10
  let v328 : Index := Scalar.indexCast arg8
  ![v328.toNat]
def k0_off29 (k0_t10 : Fin k0_t10_loop.trips) : Fin 2 → Nat :=
  let c640_i32 : BitVec 32 := 640#32
  let c1_i32_53 : BitVec 32 := 1#32
  let arg8 : BitVec 32 := Scf.iv c640_i32 c1_i32_53 k0_t10
  let c0_i32_353 : BitVec 32 := 0#32
  ![arg8.toNat, 0]
def k0_off30 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond10 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk10 (d0 : Dev nD) (v329 : BitVec 32) : Prop :=
  (∀ (k0_h10 : k0_cond10 d0 v329 = 1#1), ∀ a, (k0_off30 d0 v329) a + S1x1024.size a ≤ S16384x1024.size a)
theorem k0_off30_inb : ∀ (d0 : Dev nD) (v329 : BitVec 32) (k0_hw10 : k0_chk10 d0 v329), ∀ (k0_h10 : k0_cond10 d0 v329 = 1#1), ∀ a, (k0_off30 d0 v329) a + S1x1024.size a ≤ S16384x1024.size a := fun d0 v329 k0_hw10 k0_h10 => k0_hw10 k0_h10

@[reducible] def k0_t11_loop : Scf.Loop 32 :=
  let c512_i32_55 : BitVec 32 := 512#32
  let c128_i32_56 : BitVec 32 := 128#32
  let v45 : BitVec 32 := Scalar.addi c512_i32_55 c128_i32_56
  let c1_i32_57 : BitVec 32 := 1#32
  ⟨c512_i32_55, v45, c1_i32_57⟩
def k0_off31 (k0_t11 : Fin k0_t11_loop.trips) : Fin 1 → Nat :=
  let c512_i32_55 : BitVec 32 := 512#32
  let c1_i32_57 : BitVec 32 := 1#32
  let arg8 : BitVec 32 := Scf.iv c512_i32_55 c1_i32_57 k0_t11
  let v328 : Index := Scalar.indexCast arg8
  ![v328.toNat]
def k0_off32 (k0_t11 : Fin k0_t11_loop.trips) : Fin 2 → Nat :=
  let c512_i32_55 : BitVec 32 := 512#32
  let c1_i32_57 : BitVec 32 := 1#32
  let arg8 : BitVec 32 := Scf.iv c512_i32_55 c1_i32_57 k0_t11
  let c0_i32_353 : BitVec 32 := 0#32
  ![arg8.toNat, 0]
def k0_off33 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond11 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk11 (d0 : Dev nD) (v329 : BitVec 32) : Prop :=
  (∀ (k0_h11 : k0_cond11 d0 v329 = 1#1), ∀ a, (k0_off33 d0 v329) a + S1x1024.size a ≤ S16384x1024.size a)
theorem k0_off33_inb : ∀ (d0 : Dev nD) (v329 : BitVec 32) (k0_hw11 : k0_chk11 d0 v329), ∀ (k0_h11 : k0_cond11 d0 v329 = 1#1), ∀ a, (k0_off33 d0 v329) a + S1x1024.size a ≤ S16384x1024.size a := fun d0 v329 k0_hw11 k0_h11 => k0_hw11 k0_h11

@[reducible] def k0_t12_loop : Scf.Loop 32 :=
  let c768_i32 : BitVec 32 := 768#32
  let c128_i32_59 : BitVec 32 := 128#32
  let v46 : BitVec 32 := Scalar.addi c768_i32 c128_i32_59
  let c1_i32_60 : BitVec 32 := 1#32
  ⟨c768_i32, v46, c1_i32_60⟩
def k0_off34 (k0_t12 : Fin k0_t12_loop.trips) : Fin 1 → Nat :=
  let c768_i32 : BitVec 32 := 768#32
  let c1_i32_60 : BitVec 32 := 1#32
  let arg8 : BitVec 32 := Scf.iv c768_i32 c1_i32_60 k0_t12
  let v328 : Index := Scalar.indexCast arg8
  ![v328.toNat]
def k0_off35 (k0_t12 : Fin k0_t12_loop.trips) : Fin 2 → Nat :=
  let c768_i32 : BitVec 32 := 768#32
  let c1_i32_60 : BitVec 32 := 1#32
  let arg8 : BitVec 32 := Scf.iv c768_i32 c1_i32_60 k0_t12
  let c0_i32_353 : BitVec 32 := 0#32
  ![arg8.toNat, 0]
def k0_off36 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond12 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk12 (d0 : Dev nD) (v329 : BitVec 32) : Prop :=
  (∀ (k0_h12 : k0_cond12 d0 v329 = 1#1), ∀ a, (k0_off36 d0 v329) a + S1x1024.size a ≤ S16384x1024.size a)
theorem k0_off36_inb : ∀ (d0 : Dev nD) (v329 : BitVec 32) (k0_hw12 : k0_chk12 d0 v329), ∀ (k0_h12 : k0_cond12 d0 v329 = 1#1), ∀ a, (k0_off36 d0 v329) a + S1x1024.size a ≤ S16384x1024.size a := fun d0 v329 k0_hw12 k0_h12 => k0_hw12 k0_h12

@[reducible] def k0_t13_loop : Scf.Loop 32 :=
  let c640_i32_62 : BitVec 32 := 640#32
  let c128_i32_63 : BitVec 32 := 128#32
  let v47 : BitVec 32 := Scalar.addi c640_i32_62 c128_i32_63
  let c1_i32_64 : BitVec 32 := 1#32
  ⟨c640_i32_62, v47, c1_i32_64⟩
def k0_off37 (k0_t13 : Fin k0_t13_loop.trips) : Fin 1 → Nat :=
  let c640_i32_62 : BitVec 32 := 640#32
  let c1_i32_64 : BitVec 32 := 1#32
  let arg8 : BitVec 32 := Scf.iv c640_i32_62 c1_i32_64 k0_t13
  let v328 : Index := Scalar.indexCast arg8
  ![v328.toNat]
def k0_off38 (k0_t13 : Fin k0_t13_loop.trips) : Fin 2 → Nat :=
  let c640_i32_62 : BitVec 32 := 640#32
  let c1_i32_64 : BitVec 32 := 1#32
  let arg8 : BitVec 32 := Scf.iv c640_i32_62 c1_i32_64 k0_t13
  let c0_i32_353 : BitVec 32 := 0#32
  ![arg8.toNat, 0]
def k0_off39 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond13 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk13 (d0 : Dev nD) (v329 : BitVec 32) : Prop :=
  (∀ (k0_h13 : k0_cond13 d0 v329 = 1#1), ∀ a, (k0_off39 d0 v329) a + S1x1024.size a ≤ S16384x1024.size a)
theorem k0_off39_inb : ∀ (d0 : Dev nD) (v329 : BitVec 32) (k0_hw13 : k0_chk13 d0 v329), ∀ (k0_h13 : k0_cond13 d0 v329 = 1#1), ∀ a, (k0_off39 d0 v329) a + S1x1024.size a ≤ S16384x1024.size a := fun d0 v329 k0_hw13 k0_h13 => k0_hw13 k0_h13

@[reducible] def k0_t14_loop : Scf.Loop 32 :=
  let c896_i32 : BitVec 32 := 896#32
  let c128_i32_66 : BitVec 32 := 128#32
  let v48 : BitVec 32 := Scalar.addi c896_i32 c128_i32_66
  let c1_i32_67 : BitVec 32 := 1#32
  ⟨c896_i32, v48, c1_i32_67⟩
def k0_off40 (k0_t14 : Fin k0_t14_loop.trips) : Fin 1 → Nat :=
  let c896_i32 : BitVec 32 := 896#32
  let c1_i32_67 : BitVec 32 := 1#32
  let arg8 : BitVec 32 := Scf.iv c896_i32 c1_i32_67 k0_t14
  let v328 : Index := Scalar.indexCast arg8
  ![v328.toNat]
def k0_off41 (k0_t14 : Fin k0_t14_loop.trips) : Fin 2 → Nat :=
  let c896_i32 : BitVec 32 := 896#32
  let c1_i32_67 : BitVec 32 := 1#32
  let arg8 : BitVec 32 := Scf.iv c896_i32 c1_i32_67 k0_t14
  let c0_i32_353 : BitVec 32 := 0#32
  ![arg8.toNat, 0]
def k0_off42 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond14 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk14 (d0 : Dev nD) (v329 : BitVec 32) : Prop :=
  (∀ (k0_h14 : k0_cond14 d0 v329 = 1#1), ∀ a, (k0_off42 d0 v329) a + S1x1024.size a ≤ S16384x1024.size a)
theorem k0_off42_inb : ∀ (d0 : Dev nD) (v329 : BitVec 32) (k0_hw14 : k0_chk14 d0 v329), ∀ (k0_h14 : k0_cond14 d0 v329 = 1#1), ∀ a, (k0_off42 d0 v329) a + S1x1024.size a ≤ S16384x1024.size a := fun d0 v329 k0_hw14 k0_h14 => k0_hw14 k0_h14

@[reducible] def k0_t15_loop : Scf.Loop 32 :=
  let c768_i32_69 : BitVec 32 := 768#32
  let c128_i32_70 : BitVec 32 := 128#32
  let v49 : BitVec 32 := Scalar.addi c768_i32_69 c128_i32_70
  let c1_i32_71 : BitVec 32 := 1#32
  ⟨c768_i32_69, v49, c1_i32_71⟩
def k0_off43 (k0_t15 : Fin k0_t15_loop.trips) : Fin 1 → Nat :=
  let c768_i32_69 : BitVec 32 := 768#32
  let c1_i32_71 : BitVec 32 := 1#32
  let arg8 : BitVec 32 := Scf.iv c768_i32_69 c1_i32_71 k0_t15
  let v328 : Index := Scalar.indexCast arg8
  ![v328.toNat]
def k0_off44 (k0_t15 : Fin k0_t15_loop.trips) : Fin 2 → Nat :=
  let c768_i32_69 : BitVec 32 := 768#32
  let c1_i32_71 : BitVec 32 := 1#32
  let arg8 : BitVec 32 := Scf.iv c768_i32_69 c1_i32_71 k0_t15
  let c0_i32_353 : BitVec 32 := 0#32
  ![arg8.toNat, 0]
def k0_off45 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond15 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk15 (d0 : Dev nD) (v329 : BitVec 32) : Prop :=
  (∀ (k0_h15 : k0_cond15 d0 v329 = 1#1), ∀ a, (k0_off45 d0 v329) a + S1x1024.size a ≤ S16384x1024.size a)
theorem k0_off45_inb : ∀ (d0 : Dev nD) (v329 : BitVec 32) (k0_hw15 : k0_chk15 d0 v329), ∀ (k0_h15 : k0_cond15 d0 v329 = 1#1), ∀ a, (k0_off45 d0 v329) a + S1x1024.size a ≤ S16384x1024.size a := fun d0 v329 k0_hw15 k0_h15 => k0_hw15 k0_h15

@[reducible] def k0_t16_loop : Scf.Loop 32 :=
  let c1024_i32 : BitVec 32 := 1024#32
  let c128_i32_73 : BitVec 32 := 128#32
  let v50 : BitVec 32 := Scalar.addi c1024_i32 c128_i32_73
  let c1_i32_74 : BitVec 32 := 1#32
  ⟨c1024_i32, v50, c1_i32_74⟩
def k0_off46 (k0_t16 : Fin k0_t16_loop.trips) : Fin 1 → Nat :=
  let c1024_i32 : BitVec 32 := 1024#32
  let c1_i32_74 : BitVec 32 := 1#32
  let arg8 : BitVec 32 := Scf.iv c1024_i32 c1_i32_74 k0_t16
  let v328 : Index := Scalar.indexCast arg8
  ![v328.toNat]
def k0_off47 (k0_t16 : Fin k0_t16_loop.trips) : Fin 2 → Nat :=
  let c1024_i32 : BitVec 32 := 1024#32
  let c1_i32_74 : BitVec 32 := 1#32
  let arg8 : BitVec 32 := Scf.iv c1024_i32 c1_i32_74 k0_t16
  let c0_i32_353 : BitVec 32 := 0#32
  ![arg8.toNat, 0]
def k0_off48 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond16 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk16 (d0 : Dev nD) (v329 : BitVec 32) : Prop :=
  (∀ (k0_h16 : k0_cond16 d0 v329 = 1#1), ∀ a, (k0_off48 d0 v329) a + S1x1024.size a ≤ S16384x1024.size a)
theorem k0_off48_inb : ∀ (d0 : Dev nD) (v329 : BitVec 32) (k0_hw16 : k0_chk16 d0 v329), ∀ (k0_h16 : k0_cond16 d0 v329 = 1#1), ∀ a, (k0_off48 d0 v329) a + S1x1024.size a ≤ S16384x1024.size a := fun d0 v329 k0_hw16 k0_h16 => k0_hw16 k0_h16

@[reducible] def k0_t17_loop : Scf.Loop 32 :=
  let c896_i32_76 : BitVec 32 := 896#32
  let c128_i32_77 : BitVec 32 := 128#32
  let v51 : BitVec 32 := Scalar.addi c896_i32_76 c128_i32_77
  let c1_i32_78 : BitVec 32 := 1#32
  ⟨c896_i32_76, v51, c1_i32_78⟩
def k0_off49 (k0_t17 : Fin k0_t17_loop.trips) : Fin 1 → Nat :=
  let c896_i32_76 : BitVec 32 := 896#32
  let c1_i32_78 : BitVec 32 := 1#32
  let arg8 : BitVec 32 := Scf.iv c896_i32_76 c1_i32_78 k0_t17
  let v328 : Index := Scalar.indexCast arg8
  ![v328.toNat]
def k0_off50 (k0_t17 : Fin k0_t17_loop.trips) : Fin 2 → Nat :=
  let c896_i32_76 : BitVec 32 := 896#32
  let c1_i32_78 : BitVec 32 := 1#32
  let arg8 : BitVec 32 := Scf.iv c896_i32_76 c1_i32_78 k0_t17
  let c0_i32_353 : BitVec 32 := 0#32
  ![arg8.toNat, 0]
def k0_off51 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond17 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk17 (d0 : Dev nD) (v329 : BitVec 32) : Prop :=
  (∀ (k0_h17 : k0_cond17 d0 v329 = 1#1), ∀ a, (k0_off51 d0 v329) a + S1x1024.size a ≤ S16384x1024.size a)
theorem k0_off51_inb : ∀ (d0 : Dev nD) (v329 : BitVec 32) (k0_hw17 : k0_chk17 d0 v329), ∀ (k0_h17 : k0_cond17 d0 v329 = 1#1), ∀ a, (k0_off51 d0 v329) a + S1x1024.size a ≤ S16384x1024.size a := fun d0 v329 k0_hw17 k0_h17 => k0_hw17 k0_h17

@[reducible] def k0_t18_loop : Scf.Loop 32 :=
  let c1152_i32 : BitVec 32 := 1152#32
  let c128_i32_80 : BitVec 32 := 128#32
  let v52 : BitVec 32 := Scalar.addi c1152_i32 c128_i32_80
  let c1_i32_81 : BitVec 32 := 1#32
  ⟨c1152_i32, v52, c1_i32_81⟩
def k0_off52 (k0_t18 : Fin k0_t18_loop.trips) : Fin 1 → Nat :=
  let c1152_i32 : BitVec 32 := 1152#32
  let c1_i32_81 : BitVec 32 := 1#32
  let arg8 : BitVec 32 := Scf.iv c1152_i32 c1_i32_81 k0_t18
  let v328 : Index := Scalar.indexCast arg8
  ![v328.toNat]
def k0_off53 (k0_t18 : Fin k0_t18_loop.trips) : Fin 2 → Nat :=
  let c1152_i32 : BitVec 32 := 1152#32
  let c1_i32_81 : BitVec 32 := 1#32
  let arg8 : BitVec 32 := Scf.iv c1152_i32 c1_i32_81 k0_t18
  let c0_i32_353 : BitVec 32 := 0#32
  ![arg8.toNat, 0]
def k0_off54 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond18 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk18 (d0 : Dev nD) (v329 : BitVec 32) : Prop :=
  (∀ (k0_h18 : k0_cond18 d0 v329 = 1#1), ∀ a, (k0_off54 d0 v329) a + S1x1024.size a ≤ S16384x1024.size a)
theorem k0_off54_inb : ∀ (d0 : Dev nD) (v329 : BitVec 32) (k0_hw18 : k0_chk18 d0 v329), ∀ (k0_h18 : k0_cond18 d0 v329 = 1#1), ∀ a, (k0_off54 d0 v329) a + S1x1024.size a ≤ S16384x1024.size a := fun d0 v329 k0_hw18 k0_h18 => k0_hw18 k0_h18

@[reducible] def k0_t19_loop : Scf.Loop 32 :=
  let c1024_i32_83 : BitVec 32 := 1024#32
  let c128_i32_84 : BitVec 32 := 128#32
  let v53 : BitVec 32 := Scalar.addi c1024_i32_83 c128_i32_84
  let c1_i32_85 : BitVec 32 := 1#32
  ⟨c1024_i32_83, v53, c1_i32_85⟩
def k0_off55 (k0_t19 : Fin k0_t19_loop.trips) : Fin 1 → Nat :=
  let c1024_i32_83 : BitVec 32 := 1024#32
  let c1_i32_85 : BitVec 32 := 1#32
  let arg8 : BitVec 32 := Scf.iv c1024_i32_83 c1_i32_85 k0_t19
  let v328 : Index := Scalar.indexCast arg8
  ![v328.toNat]
def k0_off56 (k0_t19 : Fin k0_t19_loop.trips) : Fin 2 → Nat :=
  let c1024_i32_83 : BitVec 32 := 1024#32
  let c1_i32_85 : BitVec 32 := 1#32
  let arg8 : BitVec 32 := Scf.iv c1024_i32_83 c1_i32_85 k0_t19
  let c0_i32_353 : BitVec 32 := 0#32
  ![arg8.toNat, 0]
def k0_off57 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond19 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk19 (d0 : Dev nD) (v329 : BitVec 32) : Prop :=
  (∀ (k0_h19 : k0_cond19 d0 v329 = 1#1), ∀ a, (k0_off57 d0 v329) a + S1x1024.size a ≤ S16384x1024.size a)
theorem k0_off57_inb : ∀ (d0 : Dev nD) (v329 : BitVec 32) (k0_hw19 : k0_chk19 d0 v329), ∀ (k0_h19 : k0_cond19 d0 v329 = 1#1), ∀ a, (k0_off57 d0 v329) a + S1x1024.size a ≤ S16384x1024.size a := fun d0 v329 k0_hw19 k0_h19 => k0_hw19 k0_h19

@[reducible] def k0_t20_loop : Scf.Loop 32 :=
  let c1280_i32 : BitVec 32 := 1280#32
  let c128_i32_87 : BitVec 32 := 128#32
  let v54 : BitVec 32 := Scalar.addi c1280_i32 c128_i32_87
  let c1_i32_88 : BitVec 32 := 1#32
  ⟨c1280_i32, v54, c1_i32_88⟩
def k0_off58 (k0_t20 : Fin k0_t20_loop.trips) : Fin 1 → Nat :=
  let c1280_i32 : BitVec 32 := 1280#32
  let c1_i32_88 : BitVec 32 := 1#32
  let arg8 : BitVec 32 := Scf.iv c1280_i32 c1_i32_88 k0_t20
  let v328 : Index := Scalar.indexCast arg8
  ![v328.toNat]
def k0_off59 (k0_t20 : Fin k0_t20_loop.trips) : Fin 2 → Nat :=
  let c1280_i32 : BitVec 32 := 1280#32
  let c1_i32_88 : BitVec 32 := 1#32
  let arg8 : BitVec 32 := Scf.iv c1280_i32 c1_i32_88 k0_t20
  let c0_i32_353 : BitVec 32 := 0#32
  ![arg8.toNat, 0]
def k0_off60 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond20 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk20 (d0 : Dev nD) (v329 : BitVec 32) : Prop :=
  (∀ (k0_h20 : k0_cond20 d0 v329 = 1#1), ∀ a, (k0_off60 d0 v329) a + S1x1024.size a ≤ S16384x1024.size a)
theorem k0_off60_inb : ∀ (d0 : Dev nD) (v329 : BitVec 32) (k0_hw20 : k0_chk20 d0 v329), ∀ (k0_h20 : k0_cond20 d0 v329 = 1#1), ∀ a, (k0_off60 d0 v329) a + S1x1024.size a ≤ S16384x1024.size a := fun d0 v329 k0_hw20 k0_h20 => k0_hw20 k0_h20

@[reducible] def k0_t21_loop : Scf.Loop 32 :=
  let c1152_i32_90 : BitVec 32 := 1152#32
  let c128_i32_91 : BitVec 32 := 128#32
  let v55 : BitVec 32 := Scalar.addi c1152_i32_90 c128_i32_91
  let c1_i32_92 : BitVec 32 := 1#32
  ⟨c1152_i32_90, v55, c1_i32_92⟩
def k0_off61 (k0_t21 : Fin k0_t21_loop.trips) : Fin 1 → Nat :=
  let c1152_i32_90 : BitVec 32 := 1152#32
  let c1_i32_92 : BitVec 32 := 1#32
  let arg8 : BitVec 32 := Scf.iv c1152_i32_90 c1_i32_92 k0_t21
  let v328 : Index := Scalar.indexCast arg8
  ![v328.toNat]
def k0_off62 (k0_t21 : Fin k0_t21_loop.trips) : Fin 2 → Nat :=
  let c1152_i32_90 : BitVec 32 := 1152#32
  let c1_i32_92 : BitVec 32 := 1#32
  let arg8 : BitVec 32 := Scf.iv c1152_i32_90 c1_i32_92 k0_t21
  let c0_i32_353 : BitVec 32 := 0#32
  ![arg8.toNat, 0]
def k0_off63 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond21 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk21 (d0 : Dev nD) (v329 : BitVec 32) : Prop :=
  (∀ (k0_h21 : k0_cond21 d0 v329 = 1#1), ∀ a, (k0_off63 d0 v329) a + S1x1024.size a ≤ S16384x1024.size a)
theorem k0_off63_inb : ∀ (d0 : Dev nD) (v329 : BitVec 32) (k0_hw21 : k0_chk21 d0 v329), ∀ (k0_h21 : k0_cond21 d0 v329 = 1#1), ∀ a, (k0_off63 d0 v329) a + S1x1024.size a ≤ S16384x1024.size a := fun d0 v329 k0_hw21 k0_h21 => k0_hw21 k0_h21

@[reducible] def k0_t22_loop : Scf.Loop 32 :=
  let c1408_i32 : BitVec 32 := 1408#32
  let c128_i32_94 : BitVec 32 := 128#32
  let v56 : BitVec 32 := Scalar.addi c1408_i32 c128_i32_94
  let c1_i32_95 : BitVec 32 := 1#32
  ⟨c1408_i32, v56, c1_i32_95⟩
def k0_off64 (k0_t22 : Fin k0_t22_loop.trips) : Fin 1 → Nat :=
  let c1408_i32 : BitVec 32 := 1408#32
  let c1_i32_95 : BitVec 32 := 1#32
  let arg8 : BitVec 32 := Scf.iv c1408_i32 c1_i32_95 k0_t22
  let v328 : Index := Scalar.indexCast arg8
  ![v328.toNat]
def k0_off65 (k0_t22 : Fin k0_t22_loop.trips) : Fin 2 → Nat :=
  let c1408_i32 : BitVec 32 := 1408#32
  let c1_i32_95 : BitVec 32 := 1#32
  let arg8 : BitVec 32 := Scf.iv c1408_i32 c1_i32_95 k0_t22
  let c0_i32_353 : BitVec 32 := 0#32
  ![arg8.toNat, 0]
def k0_off66 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond22 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk22 (d0 : Dev nD) (v329 : BitVec 32) : Prop :=
  (∀ (k0_h22 : k0_cond22 d0 v329 = 1#1), ∀ a, (k0_off66 d0 v329) a + S1x1024.size a ≤ S16384x1024.size a)
theorem k0_off66_inb : ∀ (d0 : Dev nD) (v329 : BitVec 32) (k0_hw22 : k0_chk22 d0 v329), ∀ (k0_h22 : k0_cond22 d0 v329 = 1#1), ∀ a, (k0_off66 d0 v329) a + S1x1024.size a ≤ S16384x1024.size a := fun d0 v329 k0_hw22 k0_h22 => k0_hw22 k0_h22

@[reducible] def k0_t23_loop : Scf.Loop 32 :=
  let c1280_i32_97 : BitVec 32 := 1280#32
  let c128_i32_98 : BitVec 32 := 128#32
  let v57 : BitVec 32 := Scalar.addi c1280_i32_97 c128_i32_98
  let c1_i32_99 : BitVec 32 := 1#32
  ⟨c1280_i32_97, v57, c1_i32_99⟩
def k0_off67 (k0_t23 : Fin k0_t23_loop.trips) : Fin 1 → Nat :=
  let c1280_i32_97 : BitVec 32 := 1280#32
  let c1_i32_99 : BitVec 32 := 1#32
  let arg8 : BitVec 32 := Scf.iv c1280_i32_97 c1_i32_99 k0_t23
  let v328 : Index := Scalar.indexCast arg8
  ![v328.toNat]
def k0_off68 (k0_t23 : Fin k0_t23_loop.trips) : Fin 2 → Nat :=
  let c1280_i32_97 : BitVec 32 := 1280#32
  let c1_i32_99 : BitVec 32 := 1#32
  let arg8 : BitVec 32 := Scf.iv c1280_i32_97 c1_i32_99 k0_t23
  let c0_i32_353 : BitVec 32 := 0#32
  ![arg8.toNat, 0]
def k0_off69 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond23 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk23 (d0 : Dev nD) (v329 : BitVec 32) : Prop :=
  (∀ (k0_h23 : k0_cond23 d0 v329 = 1#1), ∀ a, (k0_off69 d0 v329) a + S1x1024.size a ≤ S16384x1024.size a)
theorem k0_off69_inb : ∀ (d0 : Dev nD) (v329 : BitVec 32) (k0_hw23 : k0_chk23 d0 v329), ∀ (k0_h23 : k0_cond23 d0 v329 = 1#1), ∀ a, (k0_off69 d0 v329) a + S1x1024.size a ≤ S16384x1024.size a := fun d0 v329 k0_hw23 k0_h23 => k0_hw23 k0_h23

@[reducible] def k0_t24_loop : Scf.Loop 32 :=
  let c1536_i32 : BitVec 32 := 1536#32
  let c128_i32_101 : BitVec 32 := 128#32
  let v58 : BitVec 32 := Scalar.addi c1536_i32 c128_i32_101
  let c1_i32_102 : BitVec 32 := 1#32
  ⟨c1536_i32, v58, c1_i32_102⟩
def k0_off70 (k0_t24 : Fin k0_t24_loop.trips) : Fin 1 → Nat :=
  let c1536_i32 : BitVec 32 := 1536#32
  let c1_i32_102 : BitVec 32 := 1#32
  let arg8 : BitVec 32 := Scf.iv c1536_i32 c1_i32_102 k0_t24
  let v328 : Index := Scalar.indexCast arg8
  ![v328.toNat]
def k0_off71 (k0_t24 : Fin k0_t24_loop.trips) : Fin 2 → Nat :=
  let c1536_i32 : BitVec 32 := 1536#32
  let c1_i32_102 : BitVec 32 := 1#32
  let arg8 : BitVec 32 := Scf.iv c1536_i32 c1_i32_102 k0_t24
  let c0_i32_353 : BitVec 32 := 0#32
  ![arg8.toNat, 0]
def k0_off72 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond24 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk24 (d0 : Dev nD) (v329 : BitVec 32) : Prop :=
  (∀ (k0_h24 : k0_cond24 d0 v329 = 1#1), ∀ a, (k0_off72 d0 v329) a + S1x1024.size a ≤ S16384x1024.size a)
theorem k0_off72_inb : ∀ (d0 : Dev nD) (v329 : BitVec 32) (k0_hw24 : k0_chk24 d0 v329), ∀ (k0_h24 : k0_cond24 d0 v329 = 1#1), ∀ a, (k0_off72 d0 v329) a + S1x1024.size a ≤ S16384x1024.size a := fun d0 v329 k0_hw24 k0_h24 => k0_hw24 k0_h24

@[reducible] def k0_t25_loop : Scf.Loop 32 :=
  let c1408_i32_104 : BitVec 32 := 1408#32
  let c128_i32_105 : BitVec 32 := 128#32
  let v59 : BitVec 32 := Scalar.addi c1408_i32_104 c128_i32_105
  let c1_i32_106 : BitVec 32 := 1#32
  ⟨c1408_i32_104, v59, c1_i32_106⟩
def k0_off73 (k0_t25 : Fin k0_t25_loop.trips) : Fin 1 → Nat :=
  let c1408_i32_104 : BitVec 32 := 1408#32
  let c1_i32_106 : BitVec 32 := 1#32
  let arg8 : BitVec 32 := Scf.iv c1408_i32_104 c1_i32_106 k0_t25
  let v328 : Index := Scalar.indexCast arg8
  ![v328.toNat]
def k0_off74 (k0_t25 : Fin k0_t25_loop.trips) : Fin 2 → Nat :=
  let c1408_i32_104 : BitVec 32 := 1408#32
  let c1_i32_106 : BitVec 32 := 1#32
  let arg8 : BitVec 32 := Scf.iv c1408_i32_104 c1_i32_106 k0_t25
  let c0_i32_353 : BitVec 32 := 0#32
  ![arg8.toNat, 0]
def k0_off75 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond25 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk25 (d0 : Dev nD) (v329 : BitVec 32) : Prop :=
  (∀ (k0_h25 : k0_cond25 d0 v329 = 1#1), ∀ a, (k0_off75 d0 v329) a + S1x1024.size a ≤ S16384x1024.size a)
theorem k0_off75_inb : ∀ (d0 : Dev nD) (v329 : BitVec 32) (k0_hw25 : k0_chk25 d0 v329), ∀ (k0_h25 : k0_cond25 d0 v329 = 1#1), ∀ a, (k0_off75 d0 v329) a + S1x1024.size a ≤ S16384x1024.size a := fun d0 v329 k0_hw25 k0_h25 => k0_hw25 k0_h25

@[reducible] def k0_t26_loop : Scf.Loop 32 :=
  let c1664_i32 : BitVec 32 := 1664#32
  let c128_i32_108 : BitVec 32 := 128#32
  let v60 : BitVec 32 := Scalar.addi c1664_i32 c128_i32_108
  let c1_i32_109 : BitVec 32 := 1#32
  ⟨c1664_i32, v60, c1_i32_109⟩
def k0_off76 (k0_t26 : Fin k0_t26_loop.trips) : Fin 1 → Nat :=
  let c1664_i32 : BitVec 32 := 1664#32
  let c1_i32_109 : BitVec 32 := 1#32
  let arg8 : BitVec 32 := Scf.iv c1664_i32 c1_i32_109 k0_t26
  let v328 : Index := Scalar.indexCast arg8
  ![v328.toNat]
def k0_off77 (k0_t26 : Fin k0_t26_loop.trips) : Fin 2 → Nat :=
  let c1664_i32 : BitVec 32 := 1664#32
  let c1_i32_109 : BitVec 32 := 1#32
  let arg8 : BitVec 32 := Scf.iv c1664_i32 c1_i32_109 k0_t26
  let c0_i32_353 : BitVec 32 := 0#32
  ![arg8.toNat, 0]
def k0_off78 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond26 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk26 (d0 : Dev nD) (v329 : BitVec 32) : Prop :=
  (∀ (k0_h26 : k0_cond26 d0 v329 = 1#1), ∀ a, (k0_off78 d0 v329) a + S1x1024.size a ≤ S16384x1024.size a)
theorem k0_off78_inb : ∀ (d0 : Dev nD) (v329 : BitVec 32) (k0_hw26 : k0_chk26 d0 v329), ∀ (k0_h26 : k0_cond26 d0 v329 = 1#1), ∀ a, (k0_off78 d0 v329) a + S1x1024.size a ≤ S16384x1024.size a := fun d0 v329 k0_hw26 k0_h26 => k0_hw26 k0_h26

@[reducible] def k0_t27_loop : Scf.Loop 32 :=
  let c1536_i32_111 : BitVec 32 := 1536#32
  let c128_i32_112 : BitVec 32 := 128#32
  let v61 : BitVec 32 := Scalar.addi c1536_i32_111 c128_i32_112
  let c1_i32_113 : BitVec 32 := 1#32
  ⟨c1536_i32_111, v61, c1_i32_113⟩
def k0_off79 (k0_t27 : Fin k0_t27_loop.trips) : Fin 1 → Nat :=
  let c1536_i32_111 : BitVec 32 := 1536#32
  let c1_i32_113 : BitVec 32 := 1#32
  let arg8 : BitVec 32 := Scf.iv c1536_i32_111 c1_i32_113 k0_t27
  let v328 : Index := Scalar.indexCast arg8
  ![v328.toNat]
def k0_off80 (k0_t27 : Fin k0_t27_loop.trips) : Fin 2 → Nat :=
  let c1536_i32_111 : BitVec 32 := 1536#32
  let c1_i32_113 : BitVec 32 := 1#32
  let arg8 : BitVec 32 := Scf.iv c1536_i32_111 c1_i32_113 k0_t27
  let c0_i32_353 : BitVec 32 := 0#32
  ![arg8.toNat, 0]
def k0_off81 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond27 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk27 (d0 : Dev nD) (v329 : BitVec 32) : Prop :=
  (∀ (k0_h27 : k0_cond27 d0 v329 = 1#1), ∀ a, (k0_off81 d0 v329) a + S1x1024.size a ≤ S16384x1024.size a)
theorem k0_off81_inb : ∀ (d0 : Dev nD) (v329 : BitVec 32) (k0_hw27 : k0_chk27 d0 v329), ∀ (k0_h27 : k0_cond27 d0 v329 = 1#1), ∀ a, (k0_off81 d0 v329) a + S1x1024.size a ≤ S16384x1024.size a := fun d0 v329 k0_hw27 k0_h27 => k0_hw27 k0_h27

@[reducible] def k0_t28_loop : Scf.Loop 32 :=
  let c1792_i32 : BitVec 32 := 1792#32
  let c128_i32_115 : BitVec 32 := 128#32
  let v62 : BitVec 32 := Scalar.addi c1792_i32 c128_i32_115
  let c1_i32_116 : BitVec 32 := 1#32
  ⟨c1792_i32, v62, c1_i32_116⟩
def k0_off82 (k0_t28 : Fin k0_t28_loop.trips) : Fin 1 → Nat :=
  let c1792_i32 : BitVec 32 := 1792#32
  let c1_i32_116 : BitVec 32 := 1#32
  let arg8 : BitVec 32 := Scf.iv c1792_i32 c1_i32_116 k0_t28
  let v328 : Index := Scalar.indexCast arg8
  ![v328.toNat]
def k0_off83 (k0_t28 : Fin k0_t28_loop.trips) : Fin 2 → Nat :=
  let c1792_i32 : BitVec 32 := 1792#32
  let c1_i32_116 : BitVec 32 := 1#32
  let arg8 : BitVec 32 := Scf.iv c1792_i32 c1_i32_116 k0_t28
  let c0_i32_353 : BitVec 32 := 0#32
  ![arg8.toNat, 0]
def k0_off84 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond28 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk28 (d0 : Dev nD) (v329 : BitVec 32) : Prop :=
  (∀ (k0_h28 : k0_cond28 d0 v329 = 1#1), ∀ a, (k0_off84 d0 v329) a + S1x1024.size a ≤ S16384x1024.size a)
theorem k0_off84_inb : ∀ (d0 : Dev nD) (v329 : BitVec 32) (k0_hw28 : k0_chk28 d0 v329), ∀ (k0_h28 : k0_cond28 d0 v329 = 1#1), ∀ a, (k0_off84 d0 v329) a + S1x1024.size a ≤ S16384x1024.size a := fun d0 v329 k0_hw28 k0_h28 => k0_hw28 k0_h28

@[reducible] def k0_t29_loop : Scf.Loop 32 :=
  let c1664_i32_118 : BitVec 32 := 1664#32
  let c128_i32_119 : BitVec 32 := 128#32
  let v63 : BitVec 32 := Scalar.addi c1664_i32_118 c128_i32_119
  let c1_i32_120 : BitVec 32 := 1#32
  ⟨c1664_i32_118, v63, c1_i32_120⟩
def k0_off85 (k0_t29 : Fin k0_t29_loop.trips) : Fin 1 → Nat :=
  let c1664_i32_118 : BitVec 32 := 1664#32
  let c1_i32_120 : BitVec 32 := 1#32
  let arg8 : BitVec 32 := Scf.iv c1664_i32_118 c1_i32_120 k0_t29
  let v328 : Index := Scalar.indexCast arg8
  ![v328.toNat]
def k0_off86 (k0_t29 : Fin k0_t29_loop.trips) : Fin 2 → Nat :=
  let c1664_i32_118 : BitVec 32 := 1664#32
  let c1_i32_120 : BitVec 32 := 1#32
  let arg8 : BitVec 32 := Scf.iv c1664_i32_118 c1_i32_120 k0_t29
  let c0_i32_353 : BitVec 32 := 0#32
  ![arg8.toNat, 0]
def k0_off87 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond29 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk29 (d0 : Dev nD) (v329 : BitVec 32) : Prop :=
  (∀ (k0_h29 : k0_cond29 d0 v329 = 1#1), ∀ a, (k0_off87 d0 v329) a + S1x1024.size a ≤ S16384x1024.size a)
theorem k0_off87_inb : ∀ (d0 : Dev nD) (v329 : BitVec 32) (k0_hw29 : k0_chk29 d0 v329), ∀ (k0_h29 : k0_cond29 d0 v329 = 1#1), ∀ a, (k0_off87 d0 v329) a + S1x1024.size a ≤ S16384x1024.size a := fun d0 v329 k0_hw29 k0_h29 => k0_hw29 k0_h29

@[reducible] def k0_t30_loop : Scf.Loop 32 :=
  let c1920_i32 : BitVec 32 := 1920#32
  let c128_i32_122 : BitVec 32 := 128#32
  let v64 : BitVec 32 := Scalar.addi c1920_i32 c128_i32_122
  let c1_i32_123 : BitVec 32 := 1#32
  ⟨c1920_i32, v64, c1_i32_123⟩
def k0_off88 (k0_t30 : Fin k0_t30_loop.trips) : Fin 1 → Nat :=
  let c1920_i32 : BitVec 32 := 1920#32
  let c1_i32_123 : BitVec 32 := 1#32
  let arg8 : BitVec 32 := Scf.iv c1920_i32 c1_i32_123 k0_t30
  let v328 : Index := Scalar.indexCast arg8
  ![v328.toNat]
def k0_off89 (k0_t30 : Fin k0_t30_loop.trips) : Fin 2 → Nat :=
  let c1920_i32 : BitVec 32 := 1920#32
  let c1_i32_123 : BitVec 32 := 1#32
  let arg8 : BitVec 32 := Scf.iv c1920_i32 c1_i32_123 k0_t30
  let c0_i32_353 : BitVec 32 := 0#32
  ![arg8.toNat, 0]
def k0_off90 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond30 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk30 (d0 : Dev nD) (v329 : BitVec 32) : Prop :=
  (∀ (k0_h30 : k0_cond30 d0 v329 = 1#1), ∀ a, (k0_off90 d0 v329) a + S1x1024.size a ≤ S16384x1024.size a)
theorem k0_off90_inb : ∀ (d0 : Dev nD) (v329 : BitVec 32) (k0_hw30 : k0_chk30 d0 v329), ∀ (k0_h30 : k0_cond30 d0 v329 = 1#1), ∀ a, (k0_off90 d0 v329) a + S1x1024.size a ≤ S16384x1024.size a := fun d0 v329 k0_hw30 k0_h30 => k0_hw30 k0_h30

@[reducible] def k0_t31_loop : Scf.Loop 32 :=
  let c1792_i32_125 : BitVec 32 := 1792#32
  let c128_i32_126 : BitVec 32 := 128#32
  let v65 : BitVec 32 := Scalar.addi c1792_i32_125 c128_i32_126
  let c1_i32_127 : BitVec 32 := 1#32
  ⟨c1792_i32_125, v65, c1_i32_127⟩
def k0_off91 (k0_t31 : Fin k0_t31_loop.trips) : Fin 1 → Nat :=
  let c1792_i32_125 : BitVec 32 := 1792#32
  let c1_i32_127 : BitVec 32 := 1#32
  let arg8 : BitVec 32 := Scf.iv c1792_i32_125 c1_i32_127 k0_t31
  let v328 : Index := Scalar.indexCast arg8
  ![v328.toNat]
def k0_off92 (k0_t31 : Fin k0_t31_loop.trips) : Fin 2 → Nat :=
  let c1792_i32_125 : BitVec 32 := 1792#32
  let c1_i32_127 : BitVec 32 := 1#32
  let arg8 : BitVec 32 := Scf.iv c1792_i32_125 c1_i32_127 k0_t31
  let c0_i32_353 : BitVec 32 := 0#32
  ![arg8.toNat, 0]
def k0_off93 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond31 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk31 (d0 : Dev nD) (v329 : BitVec 32) : Prop :=
  (∀ (k0_h31 : k0_cond31 d0 v329 = 1#1), ∀ a, (k0_off93 d0 v329) a + S1x1024.size a ≤ S16384x1024.size a)
theorem k0_off93_inb : ∀ (d0 : Dev nD) (v329 : BitVec 32) (k0_hw31 : k0_chk31 d0 v329), ∀ (k0_h31 : k0_cond31 d0 v329 = 1#1), ∀ a, (k0_off93 d0 v329) a + S1x1024.size a ≤ S16384x1024.size a := fun d0 v329 k0_hw31 k0_h31 => k0_hw31 k0_h31

@[reducible] def k0_t32_loop : Scf.Loop 32 :=
  let c1920_i32_129 : BitVec 32 := 1920#32
  let c128_i32_130 : BitVec 32 := 128#32
  let v66 : BitVec 32 := Scalar.addi c1920_i32_129 c128_i32_130
  let c1_i32_131 : BitVec 32 := 1#32
  ⟨c1920_i32_129, v66, c1_i32_131⟩
def k0_off94 (k0_t32 : Fin k0_t32_loop.trips) : Fin 1 → Nat :=
  let c1920_i32_129 : BitVec 32 := 1920#32
  let c1_i32_131 : BitVec 32 := 1#32
  let arg8 : BitVec 32 := Scf.iv c1920_i32_129 c1_i32_131 k0_t32
  let v328 : Index := Scalar.indexCast arg8
  ![v328.toNat]
def k0_off95 (k0_t32 : Fin k0_t32_loop.trips) : Fin 2 → Nat :=
  let c1920_i32_129 : BitVec 32 := 1920#32
  let c1_i32_131 : BitVec 32 := 1#32
  let arg8 : BitVec 32 := Scf.iv c1920_i32_129 c1_i32_131 k0_t32
  let c0_i32_353 : BitVec 32 := 0#32
  ![arg8.toNat, 0]
def k0_off96 (d0 : Dev nD) (v329 : BitVec 32) : Fin 2 → Nat :=
  let c16383_i32 : BitVec 32 := 16383#32
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let v334 : BitVec 32 := Scalar.maxsi c0_i32_351 v330
  let v335 : BitVec 32 := Scalar.minsi c16383_i32 v334
  let c0_i32_354 : BitVec 32 := 0#32
  ![v335.toNat, 0]
def k0_cond32 (d0 : Dev nD) (v329 : BitVec 32) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16384_i32 : BitVec 32 := 16384#32
  let v25 : BitVec 32 := Scalar.muli v2 c16384_i32
  let v330 : BitVec 32 := Scalar.subi v329 v25
  let c0_i32_349 : BitVec 32 := 0#32
  let v331 : BitVec 1 := Scalar.cmpi .sge v330 c0_i32_349
  let c16384_i32_350 : BitVec 32 := 16384#32
  let v332 : BitVec 1 := Scalar.cmpi .slt v330 c16384_i32_350
  let v333 : BitVec 1 := Scalar.andi v331 v332
  let v336 : BitVec 32 := Scalar.extui v333
  let c0_i32_352 : BitVec 32 := 0#32
  let v337 : BitVec 1 := Scalar.cmpi .ne v336 c0_i32_352
  v337

def k0_chk32 (d0 : Dev nD) (v329 : BitVec 32) : Prop :=
  (∀ (k0_h32 : k0_cond32 d0 v329 = 1#1), ∀ a, (k0_off96 d0 v329) a + S1x1024.size a ≤ S16384x1024.size a)
theorem k0_off96_inb : ∀ (d0 : Dev nD) (v329 : BitVec 32) (k0_hw32 : k0_chk32 d0 v329), ∀ (k0_h32 : k0_cond32 d0 v329 = 1#1), ∀ a, (k0_off96 d0 v329) a + S1x1024.size a ≤ S16384x1024.size a := fun d0 v329 k0_hw32 k0_h32 => k0_hw32 k0_h32

def k0_off97 (d0 : Dev nD) (c0_i32_137 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi v2 c0_i32_137
  let c4_i32_138 : BitVec 32 := 4#32
  let c0_i32_139 : BitVec 32 := 0#32
  let v71 : BitVec 1 := Scalar.cmpi .eq c4_i32_138 c0_i32_139
  let c1_i32_140 : BitVec 32 := 1#32
  let v72 : BitVec 32 := Scalar.select v71 c1_i32_140 c4_i32_138
  let v73 : BitVec 32 := Scalar.remsi v70 v72
  let c0_i32_142 : BitVec 32 := 0#32
  let v75 : BitVec 1 := Scalar.cmpi .slt v73 c0_i32_142
  let c0_i32_143 : BitVec 32 := 0#32
  let v76 : BitVec 1 := Scalar.cmpi .slt v72 c0_i32_143
  let v77 : BitVec 1 := Scalar.xori v75 v76
  let c0_i32_141 : BitVec 32 := 0#32
  let v74 : BitVec 1 := Scalar.cmpi .ne v73 c0_i32_141
  let v78 : BitVec 1 := Scalar.andi v77 v74
  let v79 : BitVec 32 := Scalar.addi v73 v72
  let v80 : BitVec 32 := Scalar.select v78 v79 v73
  let c512_i32_152 : BitVec 32 := 512#32
  let v93 : BitVec 32 := Scalar.muli v80 c512_i32_152
  let c0_i32_160 : BitVec 32 := 0#32
  ![v93.toNat, 0]
def k0_dev3 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_156 : BitVec 32 := 1#32
  let v94 : BitVec 32 := Scalar.muli v24 c1_i32_156
  let v95 : BitVec 32 := Scalar.addi c0_i32_157 v94
  v95.toNat
def k0_off98 (d0 : Dev nD) (c0_i32_144 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.subi v2 c0_i32_144
  let c1_i32_145 : BitVec 32 := 1#32
  let v82 : BitVec 32 := Scalar.subi v81 c1_i32_145
  let c4_i32_146 : BitVec 32 := 4#32
  let c0_i32_147 : BitVec 32 := 0#32
  let v83 : BitVec 1 := Scalar.cmpi .eq c4_i32_146 c0_i32_147
  let c1_i32_148 : BitVec 32 := 1#32
  let v84 : BitVec 32 := Scalar.select v83 c1_i32_148 c4_i32_146
  let v85 : BitVec 32 := Scalar.remsi v82 v84
  let c0_i32_150 : BitVec 32 := 0#32
  let v87 : BitVec 1 := Scalar.cmpi .slt v85 c0_i32_150
  let c0_i32_151 : BitVec 32 := 0#32
  let v88 : BitVec 1 := Scalar.cmpi .slt v84 c0_i32_151
  let v89 : BitVec 1 := Scalar.xori v87 v88
  let c0_i32_149 : BitVec 32 := 0#32
  let v86 : BitVec 1 := Scalar.cmpi .ne v85 c0_i32_149
  let v90 : BitVec 1 := Scalar.andi v89 v86
  let v91 : BitVec 32 := Scalar.addi v85 v84
  let v92 : BitVec 32 := Scalar.select v90 v91 v85
  let c512_i32_176 : BitVec 32 := 512#32
  let v115 : BitVec 32 := Scalar.muli v92 c512_i32_176
  let v116 : Index := Scalar.indexCast v115
  let c0_177 : Index := 0#32
  ![v116.toNat, 0]
def k0_dev4 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_201 : BitVec 32 := 1#32
  let v148 : BitVec 32 := Scalar.muli v24 c1_i32_201
  let v149 : BitVec 32 := Scalar.addi c0_i32_202 v148
  v149.toNat
def k0_dev5 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_245 : BitVec 32 := 1#32
  let v202 : BitVec 32 := Scalar.muli v24 c1_i32_245
  let v203 : BitVec 32 := Scalar.addi c0_i32_246 v202
  v203.toNat
def k0_off99 (d0 : Dev nD) (c0_i32_271 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_270 : BitVec 32 := 1#32
  let v232 : BitVec 32 := Scalar.addi v2 c1_i32_270
  let v233 : BitVec 32 := Scalar.subi v232 c0_i32_271
  let c4_i32_272 : BitVec 32 := 4#32
  let c0_i32_273 : BitVec 32 := 0#32
  let v234 : BitVec 1 := Scalar.cmpi .eq c4_i32_272 c0_i32_273
  let c1_i32_274 : BitVec 32 := 1#32
  let v235 : BitVec 32 := Scalar.select v234 c1_i32_274 c4_i32_272
  let v236 : BitVec 32 := Scalar.remsi v233 v235
  let c0_i32_276 : BitVec 32 := 0#32
  let v238 : BitVec 1 := Scalar.cmpi .slt v236 c0_i32_276
  let c0_i32_277 : BitVec 32 := 0#32
  let v239 : BitVec 1 := Scalar.cmpi .slt v235 c0_i32_277
  let v240 : BitVec 1 := Scalar.xori v238 v239
  let c0_i32_275 : BitVec 32 := 0#32
  let v237 : BitVec 1 := Scalar.cmpi .ne v236 c0_i32_275
  let v241 : BitVec 1 := Scalar.andi v240 v237
  let v242 : BitVec 32 := Scalar.addi v236 v235
  let v243 : BitVec 32 := Scalar.select v241 v242 v236
  let c512_i32_279 : BitVec 32 := 512#32
  let v245 : BitVec 32 := Scalar.muli v243 c512_i32_279
  let c0_i32_283 : BitVec 32 := 0#32
  ![v245.toNat, 0]
def k0_dev6 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_281 : BitVec 32 := 1#32
  let v246 : BitVec 32 := Scalar.muli v24 c1_i32_281
  let v247 : BitVec 32 := Scalar.addi c0_i32_282 v246
  v247.toNat
def k0_dev7 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_308 : BitVec 32 := 1#32
  let v278 : BitVec 32 := Scalar.muli v24 c1_i32_308
  let v279 : BitVec 32 := Scalar.addi c0_i32_309 v278
  v279.toNat
def k0_dev8 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_334 : BitVec 32 := 1#32
  let v310 : BitVec 32 := Scalar.muli v24 c1_i32_334
  let v311 : BitVec 32 := Scalar.addi c0_i32_335 v310
  v311.toNat
abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S2048 : Shape := ⟨1, ![2048]⟩
abbrev S_ : Shape := ⟨0, ![]⟩
abbrev S2048x1 : Shape := ⟨2, ![2048, 1]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x1024, .f32⟩
  | .hbm, ⟨11, _⟩ => ⟨S2048x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Views.lean ====
/-
# `Views`: which elements the kernel's memory views cover, and what a copy between two of them writes

The kernel names five buffers. The output staging buffer is used in four chunks of 512 rows, the landing
buffer in three slots of one chunk each, the partial result row by row, and the table row by row.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdealProof

open Cert.KernelIdeal Cert.KernelIdeal.Gen
open Idealize.ShloMosaic Idealize.ShloMosaic.TcCoe Idealize.ShloMosaic.ValueIdx

/-! ## The five buffers -/

abbrev idxM : Memref sig .tc .smem S2048 .i32 := Memref.whole cc0_stg0_0
abbrev tabM : Memref sig .tc .hbm S16384x1024 .f32 := Memref.whole main_arg0
abbrev outM : Memref sig .tc .vmem S2048x1024 .bf16 := Memref.whole cc0_stg1_0
abbrev partM : Memref sig .tc .vmem S2048x1024 .f32 := Memref.whole cc0_scratch0
abbrev comM : Memref sig .tc .vmem S3x512x1024 .bf16 := Memref.whole cc0_scratch1

/-! ## Chunks of the output and slots of the landing buffer -/

theorem chunk_inb (k : Fin 4) : ∀ a, (![512 * k.val, 0] : Fin 2 → Nat) a + S512x1024.size a ≤ S2048x1024.size a := by
  revert k; decide

theorem slot_inb (t : Fin 3) :
    ∀ a, (![t.val, 0, 0] : Fin 3 → Nat) a + S1x512x1024.size a ≤ S3x512x1024.size a := by
  revert t; decide

/-- The rows of chunk `k`. -/
def chunkR (k : Fin 4) : Rect S2048x1024 :=
  Rect.unit (s := S2048x1024) ![512 * k.val, 0] S512x1024.size (chunk_inb k)

/-- Slot `t` of the landing buffer. -/
def slotR (t : Fin 3) : Rect S3x512x1024 :=
  Rect.unit (s := S3x512x1024) ![t.val, 0, 0] S1x512x1024.size (slot_inb t)

/-- Chunk `k` of the output: rows `512 k` to `512 k + 511`. -/
def chunkM (k : Fin 4) : Memref sig .tc .vmem S512x1024 .bf16 :=
  outM.slice (chunkR k) (fun _ => rfl)

/-- Slot `t` of the landing buffer, as a chunk. -/
def slotM (t : Fin 3) : Memref sig .tc .vmem S512x1024 .bf16 :=
  (comM.slice (slotR t) (fun _ => rfl)).squeeze
    S512x1024 squeezes_S1x512x1024_S512x1024

/-- The elements of chunk `k`. -/
def chSet (k : Fin 4) : Finset S2048x1024.Idx := Finset.univ.filter fun x => (x 0).val / 512 = k.val

/-- The elements of slot `t`. -/
def slSet (t : Fin 3) : Finset S3x512x1024.Idx := Finset.univ.filter fun x => (x 0).val = t.val

theorem mem_chSet {k : Fin 4} {x : S2048x1024.Idx} : x ∈ chSet k ↔ (x 0).val / 512 = k.val := by
  simp [chSet]

theorem mem_slSet {t : Fin 3} {x : S3x512x1024.Idx} : x ∈ slSet t ↔ (x 0).val = t.val := by
  simp [slSet]

theorem chunkR_set (k : Fin 4) : (chunkR k).set = chSet k := by
  ext x
  rw [mem_chSet, chunkR, Rect.mem_set_unit]
  have h0 : (x 0).val < 2048 := (x 0).isLt
  have h1 : (x 1).val < 1024 := (x 1).isLt
  constructor
  · intro h
    have := h 0
    simp at this
    omega
  · intro h a
    fin_cases a
    · simp; omega
    · simp; omega

theorem slotR_set (t : Fin 3) : (slotR t).set = slSet t := by
  ext x
  rw [mem_slSet, slotR, Rect.mem_set_unit]
  have h0 : (x 0).val < 3 := (x 0).isLt
  have h1 : (x 1).val < 512 := (x 1).isLt
  have h2 : (x 2).val < 1024 := (x 2).isLt
  constructor
  · intro h
    have := h 0
    simp at this
    omega
  · intro h a
    fin_cases a
    · simp; omega
    · simp; omega
    · simp; omega

theorem chunkM_set (k : Fin 4) : (chunkM k).view.set = chSet k :=
  (View.set_slice_whole cc0_stg1_0 (chunkR k)).trans (chunkR_set k)

theorem slotM_set (t : Fin 3) : (slotM t).view.set = slSet t :=
  (Memref.set_view_squeeze (comM.slice (slotR t) (fun _ => rfl)) squeezes_S1x512x1024_S512x1024).trans
    ((View.set_slice_whole cc0_scratch1 (slotR t)).trans (slotR_set t))

/-! ## Where a local index of a chunk or a slot lies -/

def chEmb (k : Fin 4) (j : S512x1024.Idx) : S2048x1024.Idx := (chunkM k).view.emb j
def slEmb (t : Fin 3) (j : S512x1024.Idx) : S3x512x1024.Idx := (slotM t).view.emb j

theorem chEmb_val (k : Fin 4) (j : S512x1024.Idx) :
    (chEmb k j 0).val = 512 * k.val + (j 0).val ∧ (chEmb k j 1).val = (j 1).val := by
  constructor
  · show 512 * k.val + 1 * (j 0).val = _
    omega
  · show 0 + 1 * (j 1).val = _
    omega

theorem slEmb_val (t : Fin 3) (j : S512x1024.Idx) :
    (slEmb t j 0).val = t.val ∧ (slEmb t j 1).val = (j 0).val ∧ (slEmb t j 2).val = (j 1).val := by
  have e : slEmb t j = (Rect.unit (s := S3x512x1024) ![t.val, 0, 0] S1x512x1024.size (slot_inb t)).emb
      (Shape.reshapeEquiv (squeezes_S1x512x1024_S512x1024).numel_eq j) := rfl
  have hj : j = ix2 (n0 := 512) (n1 := 1024) (j 0) (j 1) := by funext a; fin_cases a <;> rfl
  have h3 : Shape.reshapeEquiv (squeezes_S1x512x1024_S512x1024).numel_eq j
      = ix3 (n0 := 1) (n1 := 512) (n2 := 1024) 0 (j 0) (j 1) := by
    rw [hj]; exact reshapeEquiv_ix2_1ab _ _ _
  rw [e, h3]
  refine ⟨?_, ?_, ?_⟩
  · show t.val + 1 * 0 = _
    omega
  · show 0 + 1 * (j 0).val = _
    omega
  · show 0 + 1 * (j 1).val = _
    omega

variable {F : FTy → Type} [FloatOps F]

/-- What lies in row `r` of chunk `k`, column `q`. -/
def rowOf (k : Fin 4) (r : Fin 512) (q : Fin 1024) : S2048x1024.Idx :=
  ix2 (n0 := 2048) (n1 := 1024) ⟨512 * k.val + r.val, by have := k.isLt; have := r.isLt; omega⟩ q

/-- A chunk copied into a slot lands there row by row. -/
theorem slot_write_chunk (t : Fin 3) (k : Fin 4) (f : S3x512x1024.Idx → Elt F .bf16) (g : S2048x1024.Idx → Elt F .bf16)
    (x : S3x512x1024.Idx) (hx : x ∈ slSet t) :
    (slotM t).view.write (Elt F) f ((chunkM k).view.read (Elt F) g) Finset.univ x = g (rowOf k (x 1) (x 2)) := by
  rw [← slotM_set] at hx
  obtain ⟨j, -, rfl⟩ := Finset.mem_map.mp hx
  refine (View.write_emb_of_mem (v := (slotM t).view) f _ (Finset.mem_univ j)).trans ?_
  obtain ⟨h0, h1, h2⟩ := slEmb_val t j
  obtain ⟨c0, c1⟩ := chEmb_val k j
  show g (chEmb k j) = g (rowOf k (slEmb t j 1) (slEmb t j 2))
  congr 1
  funext a
  fin_cases a
  · apply Fin.ext
    refine c0.trans ?_
    show _ = 512 * k.val + (slEmb t j 1).val
    rw [h1]
  · apply Fin.ext
    refine c1.trans h2.symm

/-- A chunk copied onto the same chunk elsewhere. -/
theorem chunk_write_chunk (k : Fin 4) (f g : S2048x1024.Idx → Elt F .bf16)
    (x : S2048x1024.Idx) (hx : x ∈ chSet k) :
    (chunkM k).view.write (Elt F) f ((chunkM k).view.read (Elt F) g) Finset.univ x = g x := by
  rw [← chunkM_set] at hx
  obtain ⟨j, -, rfl⟩ := Finset.mem_map.mp hx
  exact (View.write_emb_of_mem (v := (chunkM k).view) f _ (Finset.mem_univ j)).trans rfl

theorem row_inb (i : Fin 2048) : ∀ a, (![i.val, 0] : Fin 2 → Nat) a + S1x1024.size a ≤ S2048x1024.size a := by
  intro a
  have := i.isLt
  fin_cases a
  · show i.val + 1 ≤ 2048
    omega
  · show 0 + 1024 ≤ 1024
    omega

/-- Row `i` of the partial result. -/
def rowM (i : Fin 2048) : Memref sig .tc .vmem S1024 .f32 :=
  (partM.slice (Rect.unit (s := S2048x1024) ![i.val, 0] S1x1024.size (row_inb i)) (fun _ => rfl)).squeeze
    S1024 squeezes_S1x1024_S1024

theorem tblOff_inb (o : Nat) (ho : o < 16384) :
    ∀ a, (![o, 0] : Fin 2 → Nat) a + S1x1024.size a ≤ S16384x1024.size a := by
  intro a
  fin_cases a
  · show o + 1 ≤ 16384
    omega
  · show 0 + 1024 ≤ 1024
    omega

/-- Row `o` of a device's share of the table. -/
def tblM (o : Fin 16384) : Memref sig .tc .hbm S1024 .f32 :=
  (tabM.slice (Rect.unit (s := S16384x1024) ![o.val, 0] S1x1024.size (tblOff_inb o.val o.isLt)) (fun _ => rfl)).squeeze
    S1024 squeezes_S1x1024_S1024

/-- The elements of row `i` of the partial result. -/
def rowSet (i : Fin 2048) : Finset S2048x1024.Idx := Finset.univ.filter fun x => (x 0).val = i.val

theorem mem_rowSet {i : Fin 2048} {x : S2048x1024.Idx} : x ∈ rowSet i ↔ (x 0).val = i.val := by
  simp [rowSet]

theorem rowR_set (i : Fin 2048) :
    (Rect.unit (s := S2048x1024) ![i.val, 0] S1x1024.size (row_inb i)).set = rowSet i := by
  ext x
  rw [mem_rowSet, Rect.mem_set_unit]
  have h0 : (x 0).val < 2048 := (x 0).isLt
  have h1 : (x 1).val < 1024 := (x 1).isLt
  constructor
  · intro h
    have := h 0
    simp at this
    omega
  · intro h a
    fin_cases a
    · simp; omega
    · simp; omega

theorem rowM_set (i : Fin 2048) : (rowM i).view.set = rowSet i :=
  (Memref.set_view_squeeze (partM.slice (Rect.unit (s := S2048x1024) ![i.val, 0] S1x1024.size (row_inb i)) (fun _ => rfl))
    squeezes_S1x1024_S1024).trans ((View.set_slice_whole cc0_scratch0 _).trans (rowR_set i))

/-- Element `q` of row `o` of the table. -/
def tblAt (o : Fin 16384) (q : Fin 1024) : S16384x1024.Idx := ix2 (n0 := 16384) (n1 := 1024) o q

/-- A row of the table copied into a row of the partial result. -/
theorem row_write_tbl (i : Fin 2048) (o : Fin 16384) (f : S2048x1024.Idx → Elt F .f32) (g : S16384x1024.Idx → Elt F .f32)
    (x : S2048x1024.Idx) (hx : x ∈ rowSet i) :
    (rowM i).view.write (Elt F) f ((tblM o).view.read (Elt F) g) Finset.univ x = g (tblAt o (x 1)) := by
  rw [← rowM_set] at hx
  obtain ⟨j, -, rfl⟩ := Finset.mem_map.mp hx
  refine (View.write_emb_of_mem (v := (rowM i).view) f _ (Finset.mem_univ j)).trans ?_
  let y : S1x1024.Idx := Shape.reshapeEquiv (squeezes_S1x1024_S1024).numel_eq j
  have hy : (y 0).val < 1 := (y 0).isLt
  show g ((Rect.unit (s := S16384x1024) ![o.val, 0] S1x1024.size (tblOff_inb o.val o.isLt)).emb y)
    = g (tblAt o ((Rect.unit (s := S2048x1024) ![i.val, 0] S1x1024.size (row_inb i)).emb y 1))
  congr 1
  funext a
  fin_cases a
  · apply Fin.ext
    show o.val + 1 * (y 0).val = o.val
    omega
  · rfl

end Cert.KernelIdealProof
-- ==== Proof.Gather.lean ====
/-
# `Gather`: a device collects its rows of the table

For each of the 2048 indices the body reads the index and, when the device holds the row it names, copies that
row of its share of the table into the partial result. The copies are issued in blocks of 128 and awaited one
block later, all on one semaphore. The semaphore counts one batch: as many copies as the device holds rows.
-/
module

public import proofs.«01_k».proof.Proof.Views
public import Idealize.ShloMosaic.Lib.Batch
public import Idealize.ShloMosaic.Lib.ShareLeaves

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the ring's rounds, the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  (Emb.inl : Emb UB (UB × Counters)).trans (embR : Emb (UB × Counters) (MT nD τ sig Unit (Elt F) ℕ UU ℕ))
abbrev EC : UEmb Counters (MT nD τ sig Unit (Elt F) ℕ UU ℕ) := countersEmb

instance ER_landsIn : (ER (F := F)).LandsIn (upEmb : UEmb _ 𝕄) := by unfold ER; infer_instance

abbrev 𝒱₀ : Variants := Variants.none

/-! ## Which rows a device holds -/

/-- The index `w` names a row of device `c`'s share of the table. -/
abbrev own (c : Dev nD) (w : BitVec 32) : Prop := k0_cond1 c w = 1#1

theorem tblRow_lt (c : Dev nD) (w : BitVec 32) : k0_off3 c w 0 < 16384 := by
  have h := Affine.inb_cons (f := ![0]) (g := ![1]) (h := ![1]) (s := 1) (b := 16384)
    (Affine.minsi (Affine.ofNat (e := 16383) 16383 (by omega))
      (Affine.maxsi (Affine.ofNat (e := 0) 0 (by omega)) (Affine.word (Scalar.subi w (Scalar.muli (Scalar.remsi (Scalar.divsi (Dev.word c) 1#32) 4#32) 16384#32))) rfl) rfl)
    (by omega) (by intro a; fin_cases a; decide)
  exact h 0

/-- The row of device `c`'s share that index `w` is looked up at. -/
def tblRow (c : Dev nD) (w : BitVec 32) : Fin 16384 := ⟨k0_off3 c w 0, tblRow_lt c w⟩

theorem off3_eq (c : Dev nD) (w : BitVec 32) : k0_off3 c w = ![(tblRow c w).val, 0] := by
  funext a; fin_cases a <;> rfl

/-! ## One trip of each loop, at any row -/

/-- Issue the copy of row `o2` of the partial result, if the index at `o1` is the device's. -/
def issueProg (s5 : DmaSems sig S_) (d0 : Dev nD) (o1 : Fin 1 → Nat) (h1 : ∀ a, o1 a + S1.size a ≤ S2048.size a)
    (o2 : Fin 2 → Nat) (h2 : ∀ a, o2 a + S1x1024.size a ≤ S2048x1024.size a) :
    Prog (TpuEff nD τ sig (Elt F) Λ₀ .tc) Unit := do
  let w : Elt F .i32 ← smemLoad idxM (Rect.unit (s := S2048) o1 S1.size h1) numel1_S1 rfl
  have hw : k0_chk1 d0 w := (← Prog.lift (TpuEff.assume (k0_chk1 d0 w) (k0_chk1.dec d0 w))).down
  if h : k0_cond1 d0 w = 1#1 then do
    Prog.lift (.enqueueDma
      ((tabM.slice (Rect.unit (s := S16384x1024) (k0_off3 d0 w) S1x1024.size (k0_off3_inb d0 w hw h)) (fun _ => rfl)).squeeze S1024 squeezes_S1x1024_S1024)
      (.here ((partM.slice (Rect.unit (s := S2048x1024) o2 S1x1024.size h2) (fun _ => rfl)).squeeze S1024 squeezes_S1x1024_S1024))
      (.dma s5.sem) ((View.wordExact_bits rfl).reshape _ _) ((View.wordExact_bits rfl).reshape _ _) ⟨Or.inl rfl, trivial⟩)
    pure ⟨⟩
  else do
    pure ⟨⟩
  pure ⟨⟩

/-- Await one row's copy, if the index at `o1` is the device's. -/
def awaitProg (s5 : DmaSems sig S_) (d0 : Dev nD) (o1 : Fin 1 → Nat) (h1 : ∀ a, o1 a + S1.size a ≤ S2048.size a)
    (o2 : Fin 2 → Nat) (h2 : ∀ a, o2 a + S1x1024.size a ≤ S2048x1024.size a) :
    Prog (TpuEff nD τ sig (Elt F) Λ₀ .tc) Unit := do
  let w : Elt F .i32 ← smemLoad idxM (Rect.unit (s := S2048) o1 S1.size h1) numel1_S1 rfl
  have hw : k0_chk1 d0 w := (← Prog.lift (TpuEff.assume (k0_chk1 d0 w) (k0_chk1.dec d0 w))).down
  if h : k0_cond1 d0 w = 1#1 then do
    Prog.lift (.waitDma2 s5.sem
      ((tabM.slice (Rect.unit (s := S16384x1024) (k0_off3 d0 w) S1x1024.size (k0_off3_inb d0 w hw h)) (fun _ => rfl)).squeeze S1024 squeezes_S1x1024_S1024)
      ((partM.slice (Rect.unit (s := S2048x1024) o2 S1x1024.size h2) (fun _ => rfl)).squeeze S1024 squeezes_S1x1024_S1024)
      ((View.wordExact_bits rfl).reshape _ _) ((View.wordExact_bits rfl).reshape _ _))
    pure ⟨⟩
  else do
    pure ⟨⟩
  pure ⟨⟩

variable (c : Dev nD) (V : S2048.Idx → BitVec 32) (T : S16384x1024.Idx → Elt F .f32) (Z : S2048x1024.Idx → Elt F .f32)

/-- Index `i`. -/
def wordAt (i : Fin 2048) : BitVec 32 := V (ix1 i)

/-- The rows below `n` that the device holds, in order. -/
def rows : ℕ → List (Fin 2048)
  | 0 => []
  | n + 1 => rows n ++ (if h : n < 2048 then (if own c (wordAt V ⟨n, h⟩) then [⟨n, h⟩] else []) else [])

theorem rows_succ (i : Fin 2048) :
    rows c V (i.val + 1) = rows c V i.val ++ (if own c (wordAt V i) then [i] else []) := by
  show _ ++ _ = _
  rw [dif_pos i.isLt]

theorem rows_length_mono {a b : ℕ} (h : a ≤ b) : (rows c V a).length ≤ (rows c V b).length := by
  induction h with
  | refl => exact le_rfl
  | step _ ih => exact ih.trans (by show _ ≤ (rows c V _ ++ _).length; rw [List.length_append]; omega)

theorem mem_rows {n : ℕ} {i : Fin 2048} : i ∈ rows c V n ↔ i.val < n ∧ own c (wordAt V i) := by
  induction n with
  | zero => simp [rows]
  | succ n ih =>
    show i ∈ rows c V n ++ _ ↔ _
    rw [List.mem_append, ih]
    constructor
    · rintro (⟨h1, h2⟩ | h)
      · exact ⟨by omega, h2⟩
      · split at h
        · split at h
          · rw [List.mem_singleton] at h; subst h; exact ⟨Nat.lt_succ_self _, by assumption⟩
          · simp at h
        · simp at h
    · rintro ⟨h1, h2⟩
      by_cases hi : i.val < n
      · exact .inl ⟨hi, h2⟩
      · have : i.val = n := by omega
        subst this
        right
        rw [dif_pos i.isLt, if_pos h2]
        exact List.mem_singleton_self _

theorem rows_nodup (n : ℕ) : (rows c V n).Nodup := by
  induction n with
  | zero => exact List.nodup_nil
  | succ n ih =>
    show (rows c V n ++ _).Nodup
    rw [List.nodup_append]
    refine ⟨ih, ?_, ?_⟩
    · split
      · split <;> simp
      · simp
    · intro a ha b hb
      have := (mem_rows c V).mp ha
      rintro rfl
      split at hb
      · split at hb
        · rw [List.mem_singleton] at hb; subst hb; exact absurd this.1 (lt_irrefl _)
        · simp at hb
      · simp at hb

attribute [irreducible] rows

/-! ## What the loops hold -/

/-- The rows `≥ n` that the device holds. -/
def rest (n : ℕ) : Finset (Fin 2048) := Finset.univ.filter fun i => n ≤ i.val ∧ own c (wordAt V i)

abbrev idxPts : sProp 𝕄 := ((idxM.view.loc (c : Thread nD τ)) ↦{fullShare} (V : Buf (Elt F) (idxM.view.loc (c : Thread nD τ))))

/-- The share of the table that row `i`'s copy reads with. -/
def rowShare (i : Fin 2048) : PosShare TreeShare := ShareLeaves.leaf 11 fullShare (i : Fin (2 ^ 11))

/-- Row `i`'s source: the table's row, at the share dealt to index `i`. -/
def srcPts (i : Fin 2048) : sProp 𝕄 :=
  (((tblM (tblRow c (wordAt V i))).view.loc (c : Thread nD τ)) ↦[(tblM (tblRow c (wordAt V i))).view.set]{rowShare i} (T : Buf (Elt F) (tabM.view.loc (c : Thread nD τ))))

/-- Row `i` of the partial result before its copy, with the copy's source. -/
def todo (i : Fin 2048) : sProp 𝕄 :=
  iprop(srcPts c V T i ∗ (((rowM i).view.loc (c : Thread nD τ)) ↦[rowSet i]{fullShare} (Z : Buf (Elt F) (partM.view.loc (c : Thread nD τ)))))

/-- Row `i` of the partial result after its copy, with the copy's source. -/
def done (i : Fin 2048) : sProp 𝕄 :=
  iprop((((rowM i).view.loc (c : Thread nD τ)) ↦[rowSet i]{fullShare}
      ((rowM i).view.write (Elt F) (Z : Buf (Elt F) (partM.view.loc (c : Thread nD τ)))
        ((tblM (tblRow c (wordAt V i))).view.read (Elt F) (T : Buf (Elt F) (tabM.view.loc (c : Thread nD τ)))) Finset.univ))
    ∗ srcPts c V T i)

/-- The units one row's copy credits the semaphore with. -/
abbrev rowN : ℕ := (rowM 0).view.dmaCredit

abbrev batch (s5 : DmaSems sig S_) (n u : ℕ) : sProp 𝕄 :=
  Transfers.Batched EC (c : Thread nD τ) (.dma s5.sem) () rowN (rows c V 2048).length ((rows c V n).map (done c V T Z)) u

/-- Before index `n` is looked at by an issuing loop. -/
def issueInv (s5 : DmaSems sig S_) (u n : ℕ) : sProp 𝕄 :=
  iprop(idxPts c V ∗ bigSep (rest c V n) (todo c V T Z) ∗ batch c V T Z s5 n u)

/-- Before index `n` is looked at by an awaiting loop, the copies of the rows below `b` issued. -/
def awaitInv (s5 : DmaSems sig S_) (O : CellTallies nD τ sig Unit) (b n : ℕ) : sProp 𝕄 :=
  iprop(idxPts c V ∗ MayWait (c : Thread nD τ) (.dma s5.sem) () O ∗ (∃ W : Waits sig Unit, owes (c : Thread nD τ) O W)
    ∗ batch c V T Z s5 b (rowN * (rows c V n).length))

theorem tbl_slice_eq {o : Fin 2 → Nat} {h : ∀ a, o a + S1x1024.size a ≤ S16384x1024.size a} {r : Fin 16384} (e : o = ![r.val, 0]) :
    (tabM.slice (Rect.unit (s := S16384x1024) o S1x1024.size h) (fun _ => rfl)).squeeze S1024 squeezes_S1x1024_S1024 = tblM r := by
  subst e; rfl

theorem part_slice_eq {o : Fin 2 → Nat} {h : ∀ a, o a + S1x1024.size a ≤ S2048x1024.size a} {i : Fin 2048} (e : o = ![i.val, 0]) :
    (partM.slice (Rect.unit (s := S2048x1024) o S1x1024.size h) (fun _ => rfl)).squeeze S1024 squeezes_S1x1024_S1024 = rowM i := by
  subst e; rfl

theorem idx_read_eq {o : Fin 1 → Nat} {h : ∀ a, o a + S1.size a ≤ S2048.size a} {i : Fin 2048} (e : o = ![i.val])
    (x : S1.Idx) : (idxM.access (Rect.unit (s := S2048) o S1.size h)).read (Elt F) V x = wordAt V i := by
  subst e
  show V _ = V _
  congr 1
  funext a
  fin_cases a
  have : (x 0).val < 1 := (x 0).isLt
  apply Fin.ext
  show i.val + 1 * (x 0).val = i.val
  omega

/-- The copy of row `i` of the partial result, put into the batch. -/
theorem wp_issue_row (s5 : DmaSems sig S_) (i : Fin 2048) (u : ℕ) (hown : own c (wordAt V i))
    (hu : u ≤ (rows c V i.val).length * rowN)
    {src : Memref sig .tc .hbm S1024 .f32} {dst : Memref sig .tc .vmem S1024 .f32}
    (hs : src = tblM (tblRow c (wordAt V i))) (hd : dst = rowM i)
    {hsrc : src.view.WordExact} {hdst : dst.view.WordExact} {hsem : DmaTarget.Typed (nD := nD) .hbm (.dma s5.sem) (.here (p := (.tc : Proc τ)) dst)}
    {k : PUnit → Prog (TpuEff nD τ sig (Elt F) Λ₀ .tc) Unit} {Q : Unit → sProp 𝕄} :
    iprop(todo c V T Z i ∗ batch c V T Z s5 i.val u)
      ⊢ iprop((batch c V T Z s5 (i.val + 1) u -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.here dst) (.dma s5.sem) hsrc hdst hsem) k) Q) := by
  subst hs hd
  have hlen : (rows c V i.val).length < (rows c V 2048).length := by
    refine lt_of_lt_of_le ?_ (rows_length_mono c V (show i.val + 1 ≤ 2048 from i.isLt))
    rw [rows_succ, if_pos hown, List.length_append]; simp
  unfold batch
  rw [rows_succ, if_pos hown, List.map_append]
  iintro ⟨Ht, HB⟩ Hk
  unfold todo
  icases Ht with ⟨Hs, Hd⟩
  iapply (Transfers.wp_dmaBatched EC 𝒱₀ (c : Thread nD τ) none (src := tblM (tblRow c (wordAt V i))) (dst := rowM i) (Sd := rowSet i) (Ds := (rows c V i.val).map (done c V T Z)) (u := u) () rowN rfl (rowM_set i).le
    (by rw [List.length_map]; exact hlen) (by rw [List.length_map]; exact hu)) $$ [Hs Hd HB]
  · isplitl [Hs]
    · unfold srcPts; iexact Hs
    isplitl [Hd]
    · iexact Hd
    iexact HB
  iexact Hk

/-- The wait for one row's copy. -/
theorem wp_await_row (s5 : DmaSems sig S_) (O : CellTallies nD τ sig Unit) (b : ℕ) (i : Fin 2048) (hib : i.val < b)
    (hown : own c (wordAt V i))
    {src : Memref sig .tc .hbm S1024 .f32} {dst : Memref sig .tc .vmem S1024 .f32} (hd : dst = rowM i)
    {hsrc : src.view.WordExact} {hdst : dst.view.WordExact}
    {k : PUnit → Prog (TpuEff nD τ sig (Elt F) Λ₀ .tc) Unit} {Q : Unit → sProp 𝕄} :
    iprop(batch c V T Z s5 b (rowN * (rows c V i.val).length) ∗ (∃ W : Waits sig Unit, owes (c : Thread nD τ) O W)
        ∗ MayWait (c : Thread nD τ) (.dma s5.sem) () O)
      ⊢ iprop((iprop(batch c V T Z s5 b (rowN * (rows c V (i.val + 1)).length) ∗ (∃ W : Waits sig Unit, owes (c : Thread nD τ) O W))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 s5.sem src dst hsrc hdst) k) Q) := by
  subst hd
  have hlen : (rows c V (i.val + 1)).length = (rows c V i.val).length + 1 := by
    rw [rows_succ, if_pos hown, List.length_append]; rfl
  have hmono := rows_length_mono c V (show i.val + 1 ≤ b from hib)
  have e : rowN * (rows c V (i.val + 1)).length = rowN * (rows c V i.val).length + 1 * rowN := by
    rw [hlen, Nat.mul_add, Nat.mul_one, Nat.one_mul]
  rw [e]
  unfold batch
  iintro ⟨HB, ⟨%W, HO⟩, HM⟩ Hk
  iapply (Transfers.wp_waitBatchedMulO EC 𝒱₀ (c : Thread nD τ) none (dstw := rowM i) (Ds := (rows c V b).map (done c V T Z))
    (u := rowN * (rows c V i.val).length) () 1 (Nat.one_mul _).symm
    (by rw [← e, List.length_map]; exact Nat.mul_le_mul_left _ hmono)) $$ [HB HO HM]
  · isplitl [HB]
    · iexact HB
    isplitl [HO]
    · iexact HO
    iexact HM
  iintro ⟨HB, HO⟩
  iapply Hk
  isplitl [HB]
  · iexact HB
  iexists _
  iexact HO

theorem rest_succ_own (i : Fin 2048) (h : own c (wordAt V i)) : rest c V i.val = insert i (rest c V (i.val + 1)) := by
  ext j
  simp only [rest, Finset.mem_filter, Finset.mem_univ, true_and, Finset.mem_insert]
  constructor
  · rintro ⟨h1, h2⟩
    by_cases e : j = i
    · exact .inl e
    · exact .inr ⟨by have : j.val ≠ i.val := fun q => e (Fin.ext q); omega, h2⟩
  · rintro (rfl | ⟨h1, h2⟩)
    · exact ⟨le_rfl, h⟩
    · exact ⟨by omega, h2⟩

theorem rest_succ_not_own (i : Fin 2048) (h : ¬ own c (wordAt V i)) : rest c V i.val = rest c V (i.val + 1) := by
  ext j
  simp only [rest, Finset.mem_filter, Finset.mem_univ, true_and]
  constructor
  · rintro ⟨h1, h2⟩
    have : j.val ≠ i.val := fun q => h (by rw [← Fin.ext q]; exact h2)
    exact ⟨by omega, h2⟩
  · rintro ⟨h1, h2⟩
    exact ⟨by omega, h2⟩

theorem rest_take (i : Fin 2048) (h : own c (wordAt V i)) :
    bigSep (rest c V i.val) (todo c V T Z) ⊢ iprop(todo c V T Z i ∗ bigSep (rest c V (i.val + 1)) (todo c V T Z)) := by
  rw [rest_succ_own c V i h, bigSep_insert (by simp [rest])]
  exact .rfl

/-- One trip of an issuing loop. -/
theorem issue_trip (s5 : DmaSems sig S_) (i : Fin 2048) (u : ℕ) (hu : u ≤ (rows c V i.val).length * rowN)
    {o1 : Fin 1 → Nat} {h1 : ∀ a, o1 a + S1.size a ≤ S2048.size a} (e1 : o1 = ![i.val])
    {o2 : Fin 2 → Nat} {h2 : ∀ a, o2 a + S1x1024.size a ≤ S2048x1024.size a} (e2 : o2 = ![i.val, 0]) :
    issueInv c V T Z s5 u i.val
      ⊢ wp frame (wpE (defs₀ (F := F)) 𝒱₀ (c : Thread nD τ) none) Set.univ (issueProg (F := F) s5 c o1 h1 o2 h2)
          (fun _ => issueInv c V T Z s5 u (i.val + 1)) := by
  unfold issueInv issueProg
  simp only [smemLoad, smemLoadElt, Prog.lift, Prog.bind_op, Prog.bind_ret, Prog.pure_eq_ret]
  iintro ⟨Hi, Ht, HB⟩
  iapply (wp_load_rect 𝒱₀ (c : Thread nD τ) none Set.univ (m := idxM) (r := Rect.unit (s := S2048) o1 S1.size h1)
    (Finset.subset_univ _)) $$ Hi
  iintro Hi
  rw [idx_read_eq V e1]
  iapply (wp_assume 𝒱₀ (c : Thread nD τ) none Set.univ (k0_chk1_all c (wordAt V i)))
  by_cases hown : own c (wordAt V i)
  · rw [dif_pos hown]
    ihave Ht := (rest_take c V T Z i hown) $$ Ht
    icases Ht with ⟨Hd, Ht⟩
    iapply (wp_issue_row c V T Z s5 i u hown hu (tbl_slice_eq (off3_eq c _)) (part_slice_eq e2)) $$ [Hd HB]
    · isplitl [Hd]
      · iexact Hd
      iexact HB
    iintro HB
    rw [wp_ret]
    imodintro
    isplitl [Hi]
    · iexact Hi
    isplitl [Ht]
    · iexact Ht
    iexact HB
  · rw [dif_neg hown, wp_ret]
    imodintro
    have e : rows c V (i.val + 1) = rows c V i.val := by rw [rows_succ, if_neg hown, List.append_nil]
    unfold batch
    rw [← rest_succ_not_own c V i hown, e]
    isplitl [Hi]
    · iexact Hi
    isplitl [Ht]
    · iexact Ht
    iexact HB

/-- One trip of an awaiting loop. -/
theorem await_trip (s5 : DmaSems sig S_) (O : CellTallies nD τ sig Unit) (b : ℕ) (i : Fin 2048) (hib : i.val < b)
    {o1 : Fin 1 → Nat} {h1 : ∀ a, o1 a + S1.size a ≤ S2048.size a} (e1 : o1 = ![i.val])
    {o2 : Fin 2 → Nat} {h2 : ∀ a, o2 a + S1x1024.size a ≤ S2048x1024.size a} (e2 : o2 = ![i.val, 0]) :
    awaitInv c V T Z s5 O b i.val
      ⊢ wp frame (wpE (defs₀ (F := F)) 𝒱₀ (c : Thread nD τ) none) Set.univ (awaitProg (F := F) s5 c o1 h1 o2 h2)
          (fun _ => awaitInv c V T Z s5 O b (i.val + 1)) := by
  unfold awaitInv awaitProg
  simp only [smemLoad, smemLoadElt, Prog.lift, Prog.bind_op, Prog.bind_ret, Prog.pure_eq_ret]
  iintro ⟨Hi, #HM, HO, HB⟩
  iapply (wp_load_rect 𝒱₀ (c : Thread nD τ) none Set.univ (m := idxM) (r := Rect.unit (s := S2048) o1 S1.size h1)
    (Finset.subset_univ _)) $$ Hi
  iintro Hi
  rw [idx_read_eq V e1]
  iapply (wp_assume 𝒱₀ (c : Thread nD τ) none Set.univ (k0_chk1_all c (wordAt V i)))
  by_cases hown : own c (wordAt V i)
  · rw [dif_pos hown]
    iapply (wp_await_row c V T Z s5 O b i hib hown (part_slice_eq e2)) $$ [HO HB]
    · isplitl [HB]
      · iexact HB
      isplitl [HO]
      · iexact HO
      iexact HM
    iintro ⟨HB, HO⟩
    rw [wp_ret]
    imodintro
    isplitl [Hi]
    · iexact Hi
    isplitl []
    · iexact HM
    isplitl [HO]
    · iexact HO
    iexact HB
  · rw [dif_neg hown, wp_ret]
    imodintro
    have e : rows c V (i.val + 1) = rows c V i.val := by rw [rows_succ, if_neg hown, List.append_nil]
    rw [e]
    isplitl [Hi]
    · iexact Hi
    isplitl []
    · iexact HM
    isplitl [HO]
    · iexact HO
    iexact HB

/-! ## The loops -/

/-- An issuing loop over the 128 rows from `a`. -/
theorem issue_loop (s5 : DmaSems sig S_) (a u : ℕ) (ha : a + 128 ≤ 2048) (hu : u ≤ (rows c V a).length * rowN)
    (l : Scf.Loop 32) (hok : l.OK) (hl : l.trips = 128)
    (o1 : Fin l.trips → Fin 1 → Nat) (h1 : ∀ t x, o1 t x + S1.size x ≤ S2048.size x) (e1 : ∀ t, o1 t = ![a + t.val])
    (o2 : Fin l.trips → Fin 2 → Nat) (h2 : ∀ t x, o2 t x + S1x1024.size x ≤ S2048x1024.size x) (e2 : ∀ t, o2 t = ![a + t.val, 0])
    {β : Type} {kk : Unit → Prog (TpuEff nD τ sig (Elt F) Λ₀ .tc) β} {Q : β → sProp 𝕄} :
    issueInv c V T Z s5 u a
      ⊢ iprop((issueInv c V T Z s5 u (a + 128) -∗ wp frame (wpE (defs₀ (F := F)) 𝒱₀ (c : Thread nD τ) none) Set.univ (kk ⟨⟩) Q)
        -∗ wp frame (wpE (defs₀ (F := F)) 𝒱₀ (c : Thread nD τ) none) Set.univ
            (Scf.Loop.for l hok ⟨⟩ (fun t _ => issueProg (F := F) s5 c (o1 t) (h1 t) (o2 t) (h2 t)) >>= kk) Q) := by
  refine (Scf.wp_for_bind frame (wpE (defs₀ (F := F)) 𝒱₀ (c : Thread nD τ) none) Set.univ l.lb l.ub l.st hok (⟨⟩ : Unit) (fun t _ => issueProg (F := F) s5 c (o1 t) (h1 t) (o2 t) (h2 t))
    (fun k _ => issueInv c V T Z s5 u (a + k)) ?_ (kk := kk) (Q := Q)).trans ?_
  · intro k _
    have hk : k.val < 128 := hl ▸ k.isLt
    exact issue_trip c V T Z s5 ⟨a + k.val, by omega⟩ u
      (hu.trans (Nat.mul_le_mul_right _ (rows_length_mono c V (Nat.le_add_right a k.val)))) (e1 k) (e2 k)
  · iintro H Hk
    iapply H
    iintro %_ HI
    iapply Hk
    rw [show Scf.trips l.lb l.ub l.st = 128 from hl]
    iexact HI

/-- An awaiting loop over the 128 rows from `a`. -/
theorem await_loop (s5 : DmaSems sig S_) (O : CellTallies nD τ sig Unit) (b a : ℕ) (hb : a + 128 ≤ b) (ha : a + 128 ≤ 2048)
    (l : Scf.Loop 32) (hok : l.OK) (hl : l.trips = 128)
    (o1 : Fin l.trips → Fin 1 → Nat) (h1 : ∀ t x, o1 t x + S1.size x ≤ S2048.size x) (e1 : ∀ t, o1 t = ![a + t.val])
    (o2 : Fin l.trips → Fin 2 → Nat) (h2 : ∀ t x, o2 t x + S1x1024.size x ≤ S2048x1024.size x) (e2 : ∀ t, o2 t = ![a + t.val, 0])
    {β : Type} {kk : Unit → Prog (TpuEff nD τ sig (Elt F) Λ₀ .tc) β} {Q : β → sProp 𝕄} :
    awaitInv c V T Z s5 O b a
      ⊢ iprop((awaitInv c V T Z s5 O b (a + 128) -∗ wp frame (wpE (defs₀ (F := F)) 𝒱₀ (c : Thread nD τ) none) Set.univ (kk ⟨⟩) Q)
        -∗ wp frame (wpE (defs₀ (F := F)) 𝒱₀ (c : Thread nD τ) none) Set.univ
            (Scf.Loop.for l hok ⟨⟩ (fun t _ => awaitProg (F := F) s5 c (o1 t) (h1 t) (o2 t) (h2 t)) >>= kk) Q) := by
  refine (Scf.wp_for_bind frame (wpE (defs₀ (F := F)) 𝒱₀ (c : Thread nD τ) none) Set.univ l.lb l.ub l.st hok (⟨⟩ : Unit) (fun t _ => awaitProg (F := F) s5 c (o1 t) (h1 t) (o2 t) (h2 t))
    (fun k _ => awaitInv c V T Z s5 O b (a + k)) ?_ (kk := kk) (Q := Q)).trans ?_
  · intro k _
    have hk : k.val < 128 := hl ▸ k.isLt
    exact await_trip c V T Z s5 O b ⟨a + k.val, by omega⟩ (show a + k.val < b by omega) (e1 k) (e2 k)
  · iintro H Hk
    iapply H
    iintro %_ HI
    iapply Hk
    rw [show Scf.trips l.lb l.ub l.st = 128 from hl]
    iexact HI

end Cert.KernelIdealProof
-- ==== Proof.Collect.lean ====
/-
# `Collect`: what the gather starts from and what it leaves

The partial result is cut into its rows and the table is dealt out to the 2048 indices, one share each; the rows
a device does not hold, and of each share what the copy does not read, are kept aside. When every copy has been
awaited the pieces are put together: the table unchanged, the partial result holding each of the device's rows.
-/
module

public import proofs.«01_k».proof.Proof.Gather

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Deliveries named by a list without repetition are deliveries over the list's elements. -/
theorem deliv_list {α : Type} [DecidableEq α] (L : List α) (hL : L.Nodup) (D : α → sProp 𝕄) {m : ℕ} (hm : L.length = m) :
    bigSep (Finset.univ : Finset (Fin m)) (Transfers.deliv (m := m) (L.map D)) = bigSep L.toFinset D := by
  subst hm
  have e : L.toFinset = (Finset.univ : Finset (Fin L.length)).map ⟨L.get, List.nodup_iff_injective_get.mp hL⟩ := by
    ext a
    rw [List.mem_toFinset, Finset.mem_map, List.mem_iff_get]
    exact ⟨fun ⟨n, h⟩ => ⟨n, Finset.mem_univ _, h⟩, fun ⟨n, _, h⟩ => ⟨n, h⟩⟩
  rw [e]
  refine Eq.trans ?_ (Finset.fold_map).symm
  refine bigSep_congr fun t _ => ?_
  show (L.map D).getD t.val BI.emp = D (L.get t)
  rw [List.getD_eq_getElem?_getD, List.getElem?_eq_getElem (by rw [List.length_map]; exact t.isLt)]
  simp

variable (c : Dev nD) (V : S2048.Idx → BitVec 32) (T : S16384x1024.Idx → Elt F .f32) (Z : S2048x1024.Idx → Elt F .f32)

theorem rows_toFinset : (rows c V 2048).toFinset = rest c V 0 := by
  ext i
  rw [List.mem_toFinset, mem_rows]
  simp [rest, i.isLt]

/-- The partial result after the gather: each row the device holds copied out of its share of the table. -/
def partVal : S2048x1024.Idx → Elt F .f32 := fun x =>
  if own c (wordAt V (x 0)) then T (tblAt (tblRow c (wordAt V (x 0))) (x 1)) else Z x

abbrev tabPts (T : S16384x1024.Idx → Elt F .f32) : sProp 𝕄 :=
  ((tabM.view.loc (c : Thread nD τ)) ↦{fullShare} (T : Buf (Elt F) (tabM.view.loc (c : Thread nD τ))))
abbrev partPts (f : S2048x1024.Idx → Elt F .f32) : sProp 𝕄 :=
  ((partM.view.loc (c : Thread nD τ)) ↦{fullShare} (f : Buf (Elt F) (partM.view.loc (c : Thread nD τ))))
/-- A row of the partial result. -/
def rowPts (i : Fin 2048) (f : S2048x1024.Idx → Elt F .f32) : sProp 𝕄 :=
  ((partM.view.loc (c : Thread nD τ)) ↦[rowSet i]{fullShare} (f : Buf (Elt F) (partM.view.loc (c : Thread nD τ))))

/-- What the copy of row `i` leaves of the share of the table dealt to index `i`. -/
def sparePts (i : Fin 2048) : sProp 𝕄 :=
  ((tabM.view.loc (c : Thread nD τ)) ↦[Finset.univ \ (tblM (tblRow c (wordAt V i))).view.set]{rowShare i}
    (T : Buf (Elt F) (tabM.view.loc (c : Thread nD τ))))

/-- The rows the device does not hold. -/
def others : Finset (Fin 2048) := Finset.univ.filter fun i => ¬ own c (wordAt V i)

/-- What is kept aside during the gather. -/
def keep : sProp 𝕄 :=
  iprop(bigSep Finset.univ (sparePts c V T) ∗ bigSep (others c V) (todo c V T Z))

theorem rowSet_cover : (Finset.univ : Finset (Fin 2048)).biUnion rowSet = Finset.univ := by
  refine Finset.eq_univ_of_forall ?_
  intro x
  rw [Finset.mem_biUnion]
  have h0 : (x 0).val < 2048 := (x 0).isLt
  have h : x ∈ rowSet ⟨(x 0).val, h0⟩ := mem_rowSet.mpr rfl
  exact ⟨_, Finset.mem_univ _, h⟩

theorem rowSet_disjoint : ∀ i ∈ (Finset.univ : Finset (Fin 2048)), ∀ j ∈ (Finset.univ : Finset (Fin 2048)), i ≠ j →
    Disjoint (rowSet i) (rowSet j) := by
  intro i _ j _ hij
  refine Finset.disjoint_left.mpr fun x h1 h2 => hij (Fin.ext ?_)
  exact (mem_rowSet.mp h1).symm.trans (mem_rowSet.mp h2)

theorem part_rows (f : S2048x1024.Idx → Elt F .f32) :
    (partPts c f : sProp 𝕄) = bigSep Finset.univ fun i => rowPts c i f := by
  unfold rowPts partPts
  have h := pointsTo_biUnion (ℓ := partM.view.loc (c : Thread nD τ)) (q := fullShare) (Ix := Unit) (Name := ℕ) (U := UU) (Lvl := ℕ)
    (f := (f : Buf (Elt F) (partM.view.loc (c : Thread nD τ)))) Finset.univ rowSet rowSet_disjoint
  refine Eq.trans ?_ h
  exact congrArg (fun S => (pointsTo (partM.view.loc (c : Thread nD τ)) S fullShare (f : Buf (Elt F) (partM.view.loc (c : Thread nD τ))) : sProp 𝕄))
    rowSet_cover.symm

theorem tab_deal : (tabPts c T : sProp 𝕄)
    = iprop(bigSep Finset.univ (srcPts c V T) ∗ bigSep Finset.univ (sparePts c V T)) := by
  refine Eq.trans ?_ (bigSep_sep Finset.univ (srcPts c V T) (sparePts c V T))
  refine (ShareLeaves.pointsTo_leaves (Finset.univ : Finset (Idx (tabM.view.loc (c : Thread nD τ)))) _ 11 fullShare).trans ?_
  refine bigSep_congr fun i _ => ?_
  exact Entails.antisymm (pointsTo_split_subset (Finset.subset_univ (tblM (tblRow c (wordAt V i))).view.set)).1
    (pointsTo_split_subset (Finset.subset_univ (tblM (tblRow c (wordAt V i))).view.set)).2

theorem row_index {i : Fin 2048} {x : S2048x1024.Idx} (hx : x ∈ rowSet i) : x 0 = i :=
  Fin.ext (mem_rowSet.mp hx)

theorem bigSep_pair {α : Type} (s : Finset α) (Φ Ψ : α → sProp 𝕄) :
    iprop(bigSep s Φ ∗ bigSep s Ψ) = bigSep s fun i => iprop(Φ i ∗ Ψ i) := (bigSep_sep s Φ Ψ).symm

/-- A row's copy done, as the row of the gathered partial result. -/
theorem done_row (i : Fin 2048) (h : own c (wordAt V i)) :
    done c V T Z i = iprop(rowPts c i (partVal c V T Z) ∗ srcPts c V T i) := by
  unfold done
  congr 1
  refine pointsTo_congr fun x hx => ?_
  refine (row_write_tbl i _ Z T x hx).trans ?_
  have e := row_index hx
  show _ = partVal c V T Z x
  unfold partVal
  rw [e, if_pos h]

theorem todo_row (i : Fin 2048) (h : ¬ own c (wordAt V i)) :
    todo c V T Z i = iprop(srcPts c V T i ∗ rowPts c i (partVal c V T Z)) := by
  unfold todo
  congr 1
  refine pointsTo_congr fun x hx => ?_
  have e := row_index hx
  show _ = partVal c V T Z x
  unfold partVal
  rw [e, if_neg h]

theorem rest_zero : rest c V 0 = Finset.univ.filter fun i => own c (wordAt V i) := by
  ext i; simp [rest]

theorem gather_start : iprop(tabPts c T ∗ partPts c Z)
    ⊢ (iprop(bigSep (rest c V 0) (todo c V T Z) ∗ keep c V T Z) : sProp 𝕄) := by
  rw [tab_deal c V T, part_rows, rest_zero]
  unfold keep others
  iintro ⟨⟨Hs, Hsp⟩, Hr⟩
  have e : iprop(bigSep Finset.univ (srcPts c V T) ∗ bigSep Finset.univ fun i => rowPts c i Z)
      ⊢ (iprop(bigSep (Finset.univ.filter fun i => own c (wordAt V i)) (todo c V T Z)
        ∗ bigSep (Finset.univ.filter fun i => ¬ own c (wordAt V i)) (todo c V T Z)) : sProp 𝕄) := by
    rw [bigSep_pair]
    exact Entails.of_eq (bigSep_filter_split (Φ := todo c V T Z) Finset.univ (fun i => own c (wordAt V i)))
  ihave H := e $$ [Hs Hr]
  · isplitl [Hs]
    · iexact Hs
    iexact Hr
  icases H with ⟨H1, H2⟩
  isplitl [H1]
  · iexact H1
  isplitl [Hsp]
  · iexact Hsp
  iexact H2

theorem gather_end : iprop(bigSep (rest c V 0) (done c V T Z) ∗ keep c V T Z)
    ⊢ (iprop(tabPts c T ∗ partPts c (partVal c V T Z)) : sProp 𝕄) := by
  rw [tab_deal c V T, part_rows, rest_zero]
  unfold keep others
  iintro ⟨H1, Hsp, H2⟩
  have e1 : bigSep (Finset.univ.filter fun i => own c (wordAt V i)) (done c V T Z)
      ⊢ (bigSep (Finset.univ.filter fun i => own c (wordAt V i)) (fun i => iprop(srcPts c V T i ∗ rowPts c i (partVal c V T Z))) : sProp 𝕄) := by
    refine bigSep_mono fun i hi => ?_
    rw [done_row c V T Z i (Finset.mem_filter.mp hi).2]
    exact sep_comm
  have e2 : bigSep (Finset.univ.filter fun i => ¬ own c (wordAt V i)) (todo c V T Z)
      ⊢ (bigSep (Finset.univ.filter fun i => ¬ own c (wordAt V i)) (fun i => iprop(srcPts c V T i ∗ rowPts c i (partVal c V T Z))) : sProp 𝕄) := by
    refine bigSep_mono fun i hi => ?_
    rw [todo_row c V T Z i (Finset.mem_filter.mp hi).2]
    exact Entails.refl _
  have e3 : iprop(bigSep (Finset.univ.filter fun i => own c (wordAt V i)) (fun i => iprop(srcPts c V T i ∗ rowPts c i (partVal c V T Z)))
        ∗ bigSep (Finset.univ.filter fun i => ¬ own c (wordAt V i)) (fun i => iprop(srcPts c V T i ∗ rowPts c i (partVal c V T Z))))
      ⊢ (iprop(bigSep Finset.univ (srcPts c V T) ∗ bigSep Finset.univ fun i => rowPts c i (partVal c V T Z)) : sProp 𝕄) := by
    rw [bigSep_pair]
    exact Entails.of_eq (bigSep_filter_split (Φ := fun i => iprop(srcPts c V T i ∗ rowPts c i (partVal c V T Z))) Finset.univ (fun i => own c (wordAt V i))).symm
  ihave H1 := e1 $$ H1
  ihave H2 := e2 $$ H2
  ihave H := e3 $$ [H1 H2]
  · isplitl [H1]
    · iexact H1
    iexact H2
  icases H with ⟨Hs, Hr⟩
  isplitr [Hr]
  · isplitl [Hs]
    · iexact Hs
    iexact Hsp
  iexact Hr

theorem rowN_pos : 0 < rowN := by decide

/-- The batch, every copy awaited, gives back every row and the semaphore at zero. -/
theorem batch_done (s5 : DmaSems sig S_) :
    batch c V T Z s5 2048 (rowN * (rows c V 2048).length)
      ⊢ (|={Set.univ}=> iprop(bigSep (rest c V 0) (done c V T Z) ∗ semVal ((c : Thread nD τ), .dma s5.sem) 0) : sProp 𝕄) := by
  unfold batch
  rw [← rows_toFinset, ← deliv_list (rows c V 2048) (rows_nodup c V 2048) (done c V T Z) rfl]
  exact Transfers.batched_collect EC (c := (c : Thread nD τ)) rowN_pos (by rw [List.length_map])

/-- The batch before any copy, from the semaphore at zero. -/
theorem batch_new (s5 : DmaSems sig S_) :
    (semVal ((c : Thread nD τ), .dma s5.sem) 0 : sProp 𝕄) ⊢ |={Set.univ}=> batch c V T Z s5 0 0 := by
  unfold batch
  have e : (rows c V 0).map (done c V T Z) = [] := by unfold rows; rfl
  rw [e]
  exact Transfers.batched_alloc EC (c : Thread nD τ) () rowN _

end Cert.KernelIdealProof
-- ==== Proof.Chain.lean ====
/-
# `Chain`: the gather's thirty-two loops

Sixteen loops issue 128 copies each and sixteen await them, each awaiting loop one block behind the issuing one.
One invariant runs through all of them: `b` indices looked at by the issuing loops, `q` by the awaiting ones.
-/
module

public import proofs.«01_k».proof.Proof.Collect
public import proofs.«01_k».proof.Proof.Gen.KernelIdeal.Skeleton

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ
/-- A device's program. -/
abbrev KProg (F : FTy → Type) [FloatOps F] (β : Type) : Type 1 := Prog (TpuEff nD τ sig (Elt F) Λ₀ .tc) β

variable (c : Dev nD) (V : S2048.Idx → BitVec 32) (T : S16384x1024.Idx → Elt F .f32) (Z : S2048x1024.Idx → Elt F .f32)

/-- What runs through the loops. -/
def gInv (s5 : DmaSems sig S_) (O : CellTallies nD τ sig Unit) (b q : ℕ) : sProp 𝕄 :=
  iprop(idxPts c V ∗ MayWait (c : Thread nD τ) (.dma s5.sem) () O ∗ (∃ W : Waits sig Unit, owes (c : Thread nD τ) O W)
    ∗ bigSep (rest c V b) (todo c V T Z) ∗ batch c V T Z s5 b (rowN * (rows c V q).length))

/-- A loop whose trip `t` issues row `a + t`. -/
def IssueLoop (s5 : DmaSems sig S_) (c : Dev nD) (l : Scf.Loop 32) (body : Fin l.trips → Unit → KProg F Unit) (a : ℕ) : Prop :=
  l.trips = 128 ∧ ∃ (o1 : Fin l.trips → Fin 1 → Nat) (h1 : ∀ t x, o1 t x + S1.size x ≤ S2048.size x)
    (o2 : Fin l.trips → Fin 2 → Nat) (h2 : ∀ t x, o2 t x + S1x1024.size x ≤ S2048x1024.size x),
    (∀ t, o1 t = ![t.val + a]) ∧ (∀ t, o2 t = ![t.val + a, 0])
    ∧ body = fun t _ => issueProg (F := F) s5 c (o1 t) (h1 t) (o2 t) (h2 t)

/-- A loop whose trip `t` awaits row `a + t`. -/
def AwaitLoop (s5 : DmaSems sig S_) (c : Dev nD) (l : Scf.Loop 32) (body : Fin l.trips → Unit → KProg F Unit) (a : ℕ) : Prop :=
  l.trips = 128 ∧ ∃ (o1 : Fin l.trips → Fin 1 → Nat) (h1 : ∀ t x, o1 t x + S1.size x ≤ S2048.size x)
    (o2 : Fin l.trips → Fin 2 → Nat) (h2 : ∀ t x, o2 t x + S1x1024.size x ≤ S2048x1024.size x),
    (∀ t, o1 t = ![t.val + a]) ∧ (∀ t, o2 t = ![t.val + a, 0])
    ∧ body = fun t _ => awaitProg (F := F) s5 c (o1 t) (h1 t) (o2 t) (h2 t)

theorem issue_step {s5 : DmaSems sig S_} {O : CellTallies nD τ sig Unit} {q : ℕ} {l : Scf.Loop 32} {hok : l.OK}
    {body : Fin l.trips → Unit → KProg F Unit} (a : ℕ) (hb : IssueLoop s5 c l body a) (ha : a + 128 ≤ 2048) (hq : q ≤ a)
    {β : Type} {kk : Unit → KProg F β} {Q : β → sProp 𝕄} :
    gInv c V T Z s5 O a q
      ⊢ iprop((gInv c V T Z s5 O (a + 128) q -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l hok ⟨⟩ body >>= kk) Q) := by
  obtain ⟨hl, o1, h1, o2, h2, e1, e2, rfl⟩ := hb
  have hu : rowN * (rows c V q).length ≤ (rows c V a).length * rowN := by
    rw [Nat.mul_comm]; exact Nat.mul_le_mul_right _ (rows_length_mono c V hq)
  unfold gInv
  iintro ⟨Hi, HM, HO, Ht, HB⟩ Hk
  iapply (issue_loop c V T Z s5 a _ ha hu l hok hl o1 h1 (fun t => (e1 t).trans (by rw [Nat.add_comm])) o2 h2
    (fun t => (e2 t).trans (by rw [Nat.add_comm])) (kk := kk) (Q := Q)) $$ [Hi Ht HB]
  · unfold issueInv
    isplitl [Hi]
    · iexact Hi
    isplitl [Ht]
    · iexact Ht
    iexact HB
  unfold issueInv
  iintro ⟨Hi, Ht, HB⟩
  iapply Hk
  isplitl [Hi]
  · iexact Hi
  isplitl [HM]
  · iexact HM
  isplitl [HO]
  · iexact HO
  isplitl [Ht]
  · iexact Ht
  iexact HB

theorem await_step {s5 : DmaSems sig S_} {O : CellTallies nD τ sig Unit} {b : ℕ} {l : Scf.Loop 32} {hok : l.OK}
    {body : Fin l.trips → Unit → KProg F Unit} (a : ℕ) (hb : AwaitLoop s5 c l body a) (ha : a + 128 ≤ b) (hq : b ≤ 2048)
    {β : Type} {kk : Unit → KProg F β} {Q : β → sProp 𝕄} :
    gInv c V T Z s5 O b a
      ⊢ iprop((gInv c V T Z s5 O b (a + 128) -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l hok ⟨⟩ body >>= kk) Q) := by
  obtain ⟨hl, o1, h1, o2, h2, e1, e2, rfl⟩ := hb
  unfold gInv
  iintro ⟨Hi, #HM, HO, Ht, HB⟩ Hk
  iapply (await_loop c V T Z s5 O b a ha (ha.trans hq) l hok hl o1 h1 (fun t => (e1 t).trans (by rw [Nat.add_comm])) o2 h2
    (fun t => (e2 t).trans (by rw [Nat.add_comm])) (kk := kk) (Q := Q)) $$ [Hi HO HB]
  · unfold awaitInv
    isplitl [Hi]
    · iexact Hi
    isplitl []
    · iexact HM
    isplitl [HO]
    · iexact HO
    iexact HB
  unfold awaitInv
  iintro ⟨Hi, -, HO, HB⟩
  iapply Hk
  isplitl [Hi]
  · iexact Hi
  isplitl []
  · iexact HM
  isplitl [HO]
  · iexact HO
  isplitl [Ht]
  · iexact Ht
  iexact HB

/-- An issuing loop and the awaiting loop one block behind it. -/
theorem pair_step {s5 : DmaSems sig S_} {O : CellTallies nD τ sig Unit} {l l' : Scf.Loop 32} {hok : l.OK} {hok' : l'.OK}
    {body : Fin l.trips → Unit → KProg F Unit} {body' : Fin l'.trips → Unit → KProg F Unit} (a : ℕ)
    (hb : IssueLoop s5 c l body (a + 128)) (hb' : AwaitLoop s5 c l' body' a) (ha : a + 256 ≤ 2048)
    {β : Type} {kk : Unit → KProg F β} {Q : β → sProp 𝕄} :
    gInv c V T Z s5 O (a + 128) a
      ⊢ iprop((gInv c V T Z s5 O (a + 256) (a + 128) -∗ wp frame (wpE (defs₀ (F := F)) 𝒱₀ (c : Thread nD τ) none) Set.univ (kk ⟨⟩) Q)
        -∗ wp frame (wpE (defs₀ (F := F)) 𝒱₀ (c : Thread nD τ) none) Set.univ
            (Scf.Loop.for l hok ⟨⟩ body >>= fun _ => Scf.Loop.for l' hok' ⟨⟩ body' >>= kk) Q) := by
  iintro HG Hk
  iapply (issue_step c V T Z (a + 128) hb (by omega) (by omega)) $$ HG
  iintro HG
  iapply (await_step c V T Z a hb' (by omega) (by omega)) $$ HG
  iexact Hk

variable {h0 : (idxM : Memref sig .tc .smem S2048 .i32).IsWhole} {h1 : (tabM : Memref sig .tc .hbm S16384x1024 .f32).IsWhole}
  {h2 : (outM : Memref sig .tc .vmem S2048x1024 .bf16).IsWhole} {h3 : (partM : Memref sig .tc .vmem S2048x1024 .f32).IsWhole}
  {h4 : (comM : Memref sig .tc .vmem S3x512x1024 .bf16).IsWhole}

/-- The second part: the partial result is set to `k0_pay2 v31`, the table dealt out, and the loops begin. -/
theorem part2_spec (O : CellTallies nD τ sig Unit) (v25 : BitVec 32) (v31 : FVec F S2048x1024 .f32) {β : Type}
    {kk : BitVec 32 → KProg F β} {Q : β → sProp 𝕄} :
    iprop(idxPts c V ∗ MayWait (c : Thread nD τ) (.dma cc0_scratch2.sem) () O ∗ (∃ W : Waits sig Unit, owes (c : Thread nD τ) O W)
        ∗ tabPts c T ∗ (∃ f, partPts c f) ∗ semVal ((c : Thread nD τ), .dma cc0_scratch2.sem) 0)
      ⊢ iprop((iprop(keep c V T (k0_pay2 v31) ∗ gInv c V T (k0_pay2 v31) cc0_scratch2 O 640 512)
          -∗ wp frame (wpE (defs₀ (F := F)) 𝒱₀ (c : Thread nD τ) none) Set.univ (kk 640#32) Q)
        -∗ wp frame (wpE (defs₀ (F := F)) 𝒱₀ (c : Thread nD τ) none) Set.univ
            (k0_part2 (F := F) idxM h0 tabM h1 outM h2 partM h3 comM h4 cc0_scratch2 cc0_scratch3 cc0_scratch4 c v25 v31 >>= kk) Q) := by
  rw [k0_part2_eq_skeleton]
  unfold k0_part2_skel
  simp only [Prog.lift, Prog.bind_op, Prog.pure_eq_ret, Prog.bind_ret, bind_assoc]
  iintro ⟨Hi, HM, HO, HT, ⟨%f, HP⟩, HS⟩ Hk
  iapply (wp_load_rect 𝒱₀ (c : Thread nD τ) none Set.univ (m := partM)
    (r := Rect.unit (s := S2048x1024) ![0, 0] S2048x1024.size inb_S2048x1024_S2048x1024_0_0) (Finset.subset_univ _)) $$ HP
  iintro HP
  iapply (wp_store 𝒱₀ (c : Thread nD τ) none Set.univ (m := partM)
    (r := Rect.unit (s := S2048x1024) ![0, 0] S2048x1024.size inb_S2048x1024_S2048x1024_0_0) (Finset.subset_univ _)) $$ HP
  iintro HP
  have e : (partM.access (Rect.unit (s := S2048x1024) ![0, 0] S2048x1024.size inb_S2048x1024_S2048x1024_0_0)).write (Elt F) f
      (k0_pay2 v31) Finset.univ = k0_pay2 v31 :=
    Memref.write_access_unit_zero_univ (Elt F) cc0_scratch0 (by funext a; fin_cases a <;> rfl) _ f _
  rw [e]
  ihave HT := (gather_start c V T (k0_pay2 v31)) $$ [HT HP]
  · isplitl [HT]
    · iexact HT
    iexact HP
  icases HT with ⟨Ht, HK⟩
  imod (batch_new c V T (k0_pay2 v31) cc0_scratch2) $$ HS with HB
  iapply (issue_step c V T (k0_pay2 v31) (q := 0) 0
    ⟨rfl, k0_off1, k0_off1_inb, k0_off2, k0_off2_inb, k0_off1_eq, k0_off2_eq, rfl⟩ (by decide) (by decide)) $$ [Hi HM HO Ht HB]
  · unfold gInv
    isplitl [Hi]
    · iexact Hi
    isplitl [HM]
    · iexact HM
    isplitl [HO]
    · iexact HO
    isplitl [Ht]
    · iexact Ht
    rw [show rowN * (rows c V 0).length = 0 by unfold rows; rfl]
    iexact HB
  iintro HG
  iapply (pair_step c V T (k0_pay2 v31) 0 ⟨rfl, k0_off4, k0_off4_inb, k0_off5, k0_off5_inb, k0_off4_eq, k0_off5_eq, rfl⟩
    ⟨rfl, k0_off7, k0_off7_inb, k0_off8, k0_off8_inb, k0_off7_eq, k0_off8_eq, rfl⟩ (by decide)) $$ HG
  iintro HG
  iapply (pair_step c V T (k0_pay2 v31) 128 ⟨rfl, k0_off10, k0_off10_inb, k0_off11, k0_off11_inb, k0_off10_eq, k0_off11_eq, rfl⟩
    ⟨rfl, k0_off13, k0_off13_inb, k0_off14, k0_off14_inb, k0_off13_eq, k0_off14_eq, rfl⟩ (by decide)) $$ HG
  iintro HG
  iapply (pair_step c V T (k0_pay2 v31) 256 ⟨rfl, k0_off16, k0_off16_inb, k0_off17, k0_off17_inb, k0_off16_eq, k0_off17_eq, rfl⟩
    ⟨rfl, k0_off19, k0_off19_inb, k0_off20, k0_off20_inb, k0_off19_eq, k0_off20_eq, rfl⟩ (by decide)) $$ HG
  iintro HG
  iapply (pair_step c V T (k0_pay2 v31) 384 ⟨rfl, k0_off22, k0_off22_inb, k0_off23, k0_off23_inb, k0_off22_eq, k0_off23_eq, rfl⟩
    ⟨rfl, k0_off25, k0_off25_inb, k0_off26, k0_off26_inb, k0_off25_eq, k0_off26_eq, rfl⟩ (by decide)) $$ HG
  iintro HG
  iapply Hk
  isplitl [HK]
  · iexact HK
  iexact HG

theorem part3_spec (O : CellTallies nD τ sig Unit) (v25 w : BitVec 32) {β : Type} {kk : BitVec 32 → KProg F β} {Q : β → sProp 𝕄} :
    gInv c V T Z cc0_scratch2 O 640 512
      ⊢ iprop((gInv c V T Z cc0_scratch2 O 1280 1152 -∗ wp frame (wpE (defs₀ (F := F)) 𝒱₀ (c : Thread nD τ) none) Set.univ (kk 1280#32) Q)
        -∗ wp frame (wpE (defs₀ (F := F)) 𝒱₀ (c : Thread nD τ) none) Set.univ
            (k0_part3 (F := F) idxM h0 tabM h1 outM h2 partM h3 comM h4 cc0_scratch2 cc0_scratch3 cc0_scratch4 c v25 w >>= kk) Q) := by
  rw [k0_part3_eq_skeleton]
  unfold k0_part3_skel
  simp only [Prog.pure_eq_ret, Prog.bind_ret, bind_assoc]
  iintro HG Hk
  iapply (pair_step c V T Z 512 ⟨rfl, k0_off28, k0_off28_inb, k0_off29, k0_off29_inb, k0_off28_eq, k0_off29_eq, rfl⟩
    ⟨rfl, k0_off31, k0_off31_inb, k0_off32, k0_off32_inb, k0_off31_eq, k0_off32_eq, rfl⟩ (by decide)) $$ HG
  iintro HG
  iapply (pair_step c V T Z 640 ⟨rfl, k0_off34, k0_off34_inb, k0_off35, k0_off35_inb, k0_off34_eq, k0_off35_eq, rfl⟩
    ⟨rfl, k0_off37, k0_off37_inb, k0_off38, k0_off38_inb, k0_off37_eq, k0_off38_eq, rfl⟩ (by decide)) $$ HG
  iintro HG
  iapply (pair_step c V T Z 768 ⟨rfl, k0_off40, k0_off40_inb, k0_off41, k0_off41_inb, k0_off40_eq, k0_off41_eq, rfl⟩
    ⟨rfl, k0_off43, k0_off43_inb, k0_off44, k0_off44_inb, k0_off43_eq, k0_off44_eq, rfl⟩ (by decide)) $$ HG
  iintro HG
  iapply (pair_step c V T Z 896 ⟨rfl, k0_off46, k0_off46_inb, k0_off47, k0_off47_inb, k0_off46_eq, k0_off47_eq, rfl⟩
    ⟨rfl, k0_off49, k0_off49_inb, k0_off50, k0_off50_inb, k0_off49_eq, k0_off50_eq, rfl⟩ (by decide)) $$ HG
  iintro HG
  iapply (pair_step c V T Z 1024 ⟨rfl, k0_off52, k0_off52_inb, k0_off53, k0_off53_inb, k0_off52_eq, k0_off53_eq, rfl⟩
    ⟨rfl, k0_off55, k0_off55_inb, k0_off56, k0_off56_inb, k0_off55_eq, k0_off56_eq, rfl⟩ (by decide)) $$ HG
  iintro HG
  iapply Hk
  iexact HG

theorem part4_spec (O : CellTallies nD τ sig Unit) (v25 w : BitVec 32) {β : Type} {kk : BitVec 32 → KProg F β} {Q : β → sProp 𝕄} :
    gInv c V T Z cc0_scratch2 O 1280 1152
      ⊢ iprop((gInv c V T Z cc0_scratch2 O 1920 1792 -∗ wp frame (wpE (defs₀ (F := F)) 𝒱₀ (c : Thread nD τ) none) Set.univ (kk 1920#32) Q)
        -∗ wp frame (wpE (defs₀ (F := F)) 𝒱₀ (c : Thread nD τ) none) Set.univ
            (k0_part4 (F := F) idxM h0 tabM h1 outM h2 partM h3 comM h4 cc0_scratch2 cc0_scratch3 cc0_scratch4 c v25 w >>= kk) Q) := by
  rw [k0_part4_eq_skeleton]
  unfold k0_part4_skel
  simp only [Prog.pure_eq_ret, Prog.bind_ret, bind_assoc]
  iintro HG Hk
  iapply (pair_step c V T Z 1152 ⟨rfl, k0_off58, k0_off58_inb, k0_off59, k0_off59_inb, k0_off58_eq, k0_off59_eq, rfl⟩
    ⟨rfl, k0_off61, k0_off61_inb, k0_off62, k0_off62_inb, k0_off61_eq, k0_off62_eq, rfl⟩ (by decide)) $$ HG
  iintro HG
  iapply (pair_step c V T Z 1280 ⟨rfl, k0_off64, k0_off64_inb, k0_off65, k0_off65_inb, k0_off64_eq, k0_off65_eq, rfl⟩
    ⟨rfl, k0_off67, k0_off67_inb, k0_off68, k0_off68_inb, k0_off67_eq, k0_off68_eq, rfl⟩ (by decide)) $$ HG
  iintro HG
  iapply (pair_step c V T Z 1408 ⟨rfl, k0_off70, k0_off70_inb, k0_off71, k0_off71_inb, k0_off70_eq, k0_off71_eq, rfl⟩
    ⟨rfl, k0_off73, k0_off73_inb, k0_off74, k0_off74_inb, k0_off73_eq, k0_off74_eq, rfl⟩ (by decide)) $$ HG
  iintro HG
  iapply (pair_step c V T Z 1536 ⟨rfl, k0_off76, k0_off76_inb, k0_off77, k0_off77_inb, k0_off76_eq, k0_off77_eq, rfl⟩
    ⟨rfl, k0_off79, k0_off79_inb, k0_off80, k0_off80_inb, k0_off79_eq, k0_off80_eq, rfl⟩ (by decide)) $$ HG
  iintro HG
  iapply (pair_step c V T Z 1664 ⟨rfl, k0_off82, k0_off82_inb, k0_off83, k0_off83_inb, k0_off82_eq, k0_off83_eq, rfl⟩
    ⟨rfl, k0_off85, k0_off85_inb, k0_off86, k0_off86_inb, k0_off85_eq, k0_off86_eq, rfl⟩ (by decide)) $$ HG
  iintro HG
  iapply Hk
  iexact HG

/-- The last three loops: block 15 issued, blocks 14 and 15 awaited; every row is in and the table whole again. -/
theorem last_loops (O : CellTallies nD τ sig Unit) (v2 v25 w : BitVec 32) (v26 : Sems sig S_) {β : Type} {kk : KProg F β} {Q : β → sProp 𝕄} :
    iprop(keep c V T Z ∗ gInv c V T Z cc0_scratch2 O 1920 1792)
      ⊢ iprop((iprop(idxPts c V ∗ (∃ W : Waits sig Unit, owes (c : Thread nD τ) O W) ∗ tabPts c T ∗ partPts c (partVal c V T Z)
            ∗ semVal ((c : Thread nD τ), .dma cc0_scratch2.sem) 0)
          -∗ wp frame (wpE (defs₀ (F := F)) 𝒱₀ (c : Thread nD τ) none) Set.univ kk Q)
        -∗ wp frame (wpE (defs₀ (F := F)) 𝒱₀ (c : Thread nD τ) none) Set.univ
            (Scf.Loop.for k0_t30_loop k0_t30_ok ⟨⟩ (k0_t30_body (F := F) idxM h0 tabM h1 outM h2 partM h3 comM h4 cc0_scratch2 cc0_scratch3 cc0_scratch4 c v2 v25 v26 w)
              >>= fun _ => Scf.Loop.for k0_t31_loop k0_t31_ok ⟨⟩ (k0_t31_body (F := F) idxM h0 tabM h1 outM h2 partM h3 comM h4 cc0_scratch2 cc0_scratch3 cc0_scratch4 c v2 v25 v26 w)
              >>= fun _ => Scf.Loop.for k0_t32_loop k0_t32_ok ⟨⟩ (k0_t32_body (F := F) idxM h0 tabM h1 outM h2 partM h3 comM h4 cc0_scratch2 cc0_scratch3 cc0_scratch4 c v2 v25 v26 w)
              >>= fun _ => kk) Q) := by
  iintro ⟨HK, HG⟩ Hk
  iapply (pair_step c V T Z 1792 ⟨rfl, k0_off88, k0_off88_inb, k0_off89, k0_off89_inb, k0_off88_eq, k0_off89_eq, rfl⟩
    ⟨rfl, k0_off91, k0_off91_inb, k0_off92, k0_off92_inb, k0_off91_eq, k0_off92_eq, rfl⟩ (by decide)) $$ HG
  iintro HG
  iapply (await_step c V T Z 1920 ⟨rfl, k0_off94, k0_off94_inb, k0_off95, k0_off95_inb, k0_off94_eq, k0_off95_eq, rfl⟩ (by decide) (by decide)) $$ HG
  unfold gInv
  iintro ⟨Hi, -, HO, -, HB⟩
  imod (batch_done c V T Z cc0_scratch2) $$ HB with ⟨HD, HS⟩
  ihave HT := (gather_end c V T Z) $$ [HD HK]
  · isplitl [HD]
    · iexact HD
    iexact HK
  icases HT with ⟨HT, HP⟩
  iapply Hk
  isplitl [Hi]
  · iexact Hi
  isplitl [HO]
  · iexact HO
  isplitl [HT]
  · iexact HT
  isplitl [HP]
  · iexact HP
  iexact HS

end Cert.KernelIdealProof
-- ==== Proof.Ring.lean ====
/-
# `Ring`: the protocol of the exchange

Each device sends six chunks to the next one: three running sums (the reduce-scatter, into the three slots of the
next device's landing buffer) and three finished chunks (the all-gather, into the next device's output). Before the
first send it signals both neighbours and waits for both.

* The barrier cell of `c` gets one unit from `prv c` (nothing handed over) and one from `nxt c`, with the landing
  buffer of `nxt c`.
* The receive cell `t` of `c` gets a chunk's credit from `prv c`: the landed chunk, and leave to write chunks of the
  devices behind: a chunk that has been sent in the reduce-scatter travels three devices on, to the device
  that writes it in the all-gather.
* The send cell `t` of `c` gives the sent chunk back in the all-gather, nothing in the reduce-scatter.
-/
module

public import proofs.«01_k».proof.Proof.Chain
public import Idealize.ShloMosaic.Lib.Pipeline.Launch

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Places on the ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
/-- The chunk `s` places before device `c`. -/
def ck (c : Dev nD) (s : ℕ) : Fin 4 := ⟨(c.val + 8 - s) % 4, Nat.mod_lt _ (by decide)⟩

theorem prv_nxt (c : Dev nD) : prv (nxt c) = c := by revert c; decide
theorem nxt_prv (c : Dev nD) : nxt (prv c) = c := by revert c; decide
theorem prv3 (c : Dev nD) : prv (prv (prv c)) = nxt c := by revert c; decide

def ring : Dev nD ≃ Dev nD := ⟨nxt, prv, prv_nxt, nxt_prv⟩

/-! ## The semaphores -/

abbrev barS : Sem sig := (SemArray.scalar (sig.barrier 0 rfl) : Sems sig S_).sem

theorem sem_inb (t : Fin 6) : ∀ a, (![t.val] : Fin 1 → Nat) a + S1.size a ≤ S6.size a := by revert t; decide

abbrev sendS (t : Fin 6) : DmaSem sig :=
  ((cc0_scratch3.slice (Rect.unit (s := S6) ![t.val] S1.size (sem_inb t))).squeeze S_ squeezes_S1_S_ : DmaSems sig S_).sem
abbrev recvS (t : Fin 6) : DmaSem sig :=
  ((cc0_scratch4.slice (Rect.unit (s := S6) ![t.val] S1.size (sem_inb t))).squeeze S_ squeezes_S1_S_ : DmaSems sig S_).sem

/-- The ring's semaphores: the barrier, the send ones (`false`), the receive ones (`true`). -/
abbrev KI : Type := Option (Bool × Fin 6)

def csem : KI → SemLoc sig
  | none => .reg barS
  | some (false, t) => .dma (sendS t)
  | some (true, t) => .dma (recvS t)

theorem csem_injective : Function.Injective csem := by
  have h : ∀ a b : KI, csem a = csem b → a = b := by decide +kernel
  exact fun a b => h a b

theorem csem_ne_dma (k : KI) : csem k ≠ .dma cc0_scratch2.sem := by revert k; decide +kernel

/-- Which of the ring's semaphores a semaphore is. -/
def kOf (s : SemLoc sig) : Option KI := (Finset.univ.filter fun k : KI => csem k = s).toList.head?

theorem kOf_csem (k : KI) : kOf (csem k) = some k := by
  unfold kOf
  have e : (Finset.univ.filter fun k' : KI => csem k' = csem k) = {k} := by
    ext k'
    simp only [Finset.mem_filter, Finset.mem_univ, true_and, Finset.mem_singleton]
    exact csem_injective.eq_iff
  rw [e, Finset.toList_singleton]
  rfl

abbrev kcell (ck : Dev nD × KI) : GSem nD τ sig := ((ck.1 : Thread nD τ), csem ck.2)
abbrev barCell (c : Dev nD) : GSem nD τ sig := kcell (c, none)
abbrev sendCell (c : Dev nD) (t : Fin 6) : GSem nD τ sig := kcell (c, some (false, t))
abbrev recvCell (c : Dev nD) (t : Fin 6) : GSem nD τ sig := kcell (c, some (true, t))

theorem kcell_injective : Function.Injective (kcell : Dev nD × KI → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- The credit of one chunk's copy. -/
abbrev N : ℕ := (chunkM 0).view.dmaCredit
theorem N_pos : 0 < N := View.dmaCredit_pos _ (by decide)
theorem credit_chunk (k : Fin 4) : (chunkM k).view.dmaCredit = N := rfl
theorem credit_slot (t : Fin 3) : (slotM t).view.dmaCredit = N := rfl

/-! ## Contents -/

variable (G : Dev nD → S2048x1024.Idx → Elt F .bf16)

/-- The running sum that device `c` holds after `t` additions: its own part and those of the `t` devices before it. -/
def acc : ℕ → Dev nD → S2048x1024.Idx → Elt F .bf16
  | 0, c => G c
  | t + 1, c => fun x => FloatOps.addf (G c x) (acc t (prv c) x)

/-- What lands in a slot at step `t`: the running sum of the device before, on the chunk `t + 1` places back. -/
def commVal (c : Dev nD) (t : ℕ) : S3x512x1024.Idx → Elt F .bf16 := fun x => acc G t (prv c) (rowOf (ck c (t + 1)) (x 1) (x 2))

/-- The output: on each chunk the sum finished by the device before that chunk's number. -/
def finalOut : S2048x1024.Idx → Elt F .bf16 := fun x =>
  acc G 3 (prv (⟨(x 0).val / 512 % 4, Nat.mod_lt _ (by decide)⟩ : Dev nD)) x

/-! ## Pieces of memory -/

def chPts (d : Dev nD) (k : Fin 4) (f : S2048x1024.Idx → Elt F .bf16) : sProp 𝕄 :=
  ((chunkM k).view.loc (d : Thread nD τ) ↦[(chunkM k).view.set]{fullShare} (f : Buf (Elt F) ((chunkM k).view.loc (d : Thread nD τ))))
def slPts (d : Dev nD) (t : Fin 3) (f : S3x512x1024.Idx → Elt F .bf16) : sProp 𝕄 :=
  ((slotM t).view.loc (d : Thread nD τ) ↦[(slotM t).view.set]{fullShare} (f : Buf (Elt F) ((slotM t).view.loc (d : Thread nD τ))))

/-- Leave to write the chunk `s` places before `d` in `d`'s output. -/
def leave (d : Dev nD) (s : ℕ) : sProp 𝕄 := iprop(∃ f, chPts d (ck d s) f)
/-- Some contents of a slot. -/
def slAny (d : Dev nD) (t : Fin 3) : sProp 𝕄 := iprop(∃ f, slPts d t f)

instance chPts_storable (d : Dev nD) (k : Fin 4) (f) : BI.Storable (upEmb : UEmb _ 𝕄) (chPts (F := F) d k f) :=
  (inferInstance : BI.Storable (upEmb : UEmb _ 𝕄) ((chunkM k).view.loc (d : Thread nD τ) ↦[(chunkM k).view.set]{fullShare} (id f : Buf (Elt F) ((chunkM k).view.loc (d : Thread nD τ)))))
instance slPts_storable (d : Dev nD) (t : Fin 3) (f) : BI.Storable (upEmb : UEmb _ 𝕄) (slPts (F := F) d t f) :=
  (inferInstance : BI.Storable (upEmb : UEmb _ 𝕄) ((slotM t).view.loc (d : Thread nD τ) ↦[(slotM t).view.set]{fullShare} (id f : Buf (Elt F) ((slotM t).view.loc (d : Thread nD τ)))))
instance leave_storable (d : Dev nD) (s : ℕ) : BI.Storable (upEmb : UEmb _ 𝕄) (leave (F := F) d s) := by unfold leave; infer_instance
instance slAny_storable (d : Dev nD) (t : Fin 3) : BI.Storable (upEmb : UEmb _ 𝕄) (slAny (F := F) d t) := by unfold slAny; infer_instance

/-! ## The schedule -/

/-- What `nxt c`'s signal hands `c`: the landing buffer of `nxt c`. -/
def barPay (c : Dev nD) : sProp 𝕄 := iprop(slAny (nxt c) 0 ∗ slAny (nxt c) 1 ∗ slAny (nxt c) 2)

/-- The leaves to write that come with the landing at step `t`. -/
def fwd (c : Dev nD) : Fin 6 → sProp 𝕄
  | 0 => leave (prv c) 0
  | 1 => iprop(leave (prv c) 1 ∗ leave (prv (prv c)) 0)
  | 2 => iprop(leave (prv c) 2 ∗ leave (prv (prv c)) 1 ∗ leave (prv (prv (prv c))) 0)
  | 3 => iprop(leave (prv (prv c)) 2 ∗ leave (prv (prv (prv c))) 1)
  | 4 => leave (prv (prv (prv c))) 2
  | 5 => iprop(emp)

/-- The chunk or slot that step `t` lands in. -/
def landed (c : Dev nD) : Fin 6 → sProp 𝕄
  | 0 => slPts c 0 (commVal G c 0)
  | 1 => slPts c 1 (commVal G c 1)
  | 2 => slPts c 2 (commVal G c 2)
  | 3 => chPts c (ck c 0) (finalOut G)
  | 4 => chPts c (ck c 1) (finalOut G)
  | 5 => chPts c (ck c 2) (finalOut G)

def recvPay (c : Dev nD) (t : Fin 6) : sProp 𝕄 := iprop(landed G c t ∗ fwd c t)

def sendPay (c : Dev nD) : Fin 6 → sProp 𝕄
  | 0 => iprop(emp)
  | 1 => iprop(emp)
  | 2 => iprop(emp)
  | 3 => chPts c (ck c 3) (finalOut G)
  | 4 => chPts c (ck c 0) (finalOut G)
  | 5 => chPts c (ck c 1) (finalOut G)

instance fwd_storable (c : Dev nD) (t : Fin 6) : BI.Storable (upEmb : UEmb _ 𝕄) (fwd (F := F) c t) := by
  unfold fwd; split <;> infer_instance
instance landed_storable (c : Dev nD) (t : Fin 6) : BI.Storable (upEmb : UEmb _ 𝕄) (landed (F := F) G c t) := by
  unfold landed; split <;> infer_instance
instance recvPay_storable (c : Dev nD) (t : Fin 6) : BI.Storable (upEmb : UEmb _ 𝕄) (recvPay (F := F) G c t) := by
  unfold recvPay; infer_instance
instance sendPay_storable (c : Dev nD) (t : Fin 6) : BI.Storable (upEmb : UEmb _ 𝕄) (sendPay (F := F) G c t) := by
  unfold sendPay; split <;> infer_instance

def dutiesAt : Option KI → Finset Bool
  | some none => Finset.univ
  | some (some _) => {false}
  | none => ∅
def amountAt : Option KI → ℕ
  | some none => 1
  | _ => N
def payAt (c : Dev nD) (d : Bool) : Option KI → sProp 𝕄
  | some none => if d then barPay c else iprop(emp)
  | some (some (false, t)) => sendPay G c t
  | some (some (true, t)) => recvPay G c t
  | none => iprop(emp)

instance payAt_storable (c : Dev nD) (d : Bool) (k : Option KI) : BI.Storable (upEmb : UEmb _ 𝕄) (payAt (F := F) G c d k) := by
  unfold payAt barPay
  (repeat' split) <;> infer_instance

/-- One round: two units on a barrier cell, one chunk's credit on each of the others. -/
def ringRd : Rounds.Schedule (GSem nD τ sig) Bool 𝕄 where
  duties g r := if r = 0 ∧ g.1.2 = .tc then dutiesAt (kOf g.2) else ∅
  unitless _ := False
  amount g _ _ := amountAt (kOf g.2)
  payload g _ d := payAt G g.1.1 d (kOf g.2)
  amount_pos g _ _ _ := by
    unfold amountAt
    split
    · exact Nat.one_pos
    · exact N_pos

instance ringRd_payload_storable (g : GSem nD τ sig) (r : ℕ) (d : Bool) :
    BI.Storable (upEmb : UEmb _ 𝕄) ((ringRd (F := F) G).payload g r d) := payAt_storable G g.1.1 d (kOf g.2)

section Sched
variable (c : Dev nD) (t : Fin 6)

theorem duties_cell (k : KI) : (ringRd (F := F) G).duties (kcell (c, k)) 0 = dutiesAt (some k) := by
  show (if (0 : ℕ) = 0 ∧ (kcell (c, k)).1.2 = .tc then dutiesAt (kOf (csem k)) else ∅) = _
  rw [if_pos ⟨rfl, rfl⟩, kOf_csem]
theorem amount_cell (k : KI) (d : Bool) : (ringRd (F := F) G).amount (kcell (c, k)) 0 d = amountAt (some k) :=
  congrArg amountAt (kOf_csem k)
theorem payload_cell (k : KI) (d : Bool) : (ringRd (F := F) G).payload (kcell (c, k)) 0 d = payAt G c d (some k) :=
  congrArg (payAt G c d) (kOf_csem k)
theorem duties_later (g : GSem nD τ sig) : ∀ r, 1 ≤ r → (ringRd (F := F) G).duties g r = ∅ :=
  fun r hr => if_neg fun h => by omega

theorem expect_bar : (ringRd (F := F) G).expect (barCell c) 0 = 2 := by
  unfold Schedule.expect Schedule.amountOf
  rw [duties_cell, Finset.sum_congr rfl fun d _ => amount_cell G c none d]
  rfl
theorem expect_xfer (x : Bool × Fin 6) : (ringRd (F := F) G).expect (kcell (c, some x)) 0 = N := by
  unfold Schedule.expect Schedule.amountOf
  rw [duties_cell, Finset.sum_congr rfl fun d _ => amount_cell G c (some x) d]
  exact Finset.sum_singleton _ _

theorem rest_bar : bigSep ((ringRd (F := F) G).duties (barCell c) 0 \ ∅) (fun d => (ringRd (F := F) G).payload (barCell c) 0 d) = iprop(emp ∗ barPay c) := by
  rw [Finset.sdiff_empty, duties_cell]
  show bigSep Finset.univ _ = _
  rw [bigSep_univ_eq_bigSepL [false, true] (by decide) (by decide), bigSepL_cons_cons, bigSepL_singleton, payload_cell, payload_cell]
  rfl
theorem rest_xfer (x : Bool × Fin 6) : bigSep ((ringRd (F := F) G).duties (kcell (c, some x)) 0 \ ∅) (fun d => (ringRd (F := F) G).payload (kcell (c, some x)) 0 d)
    = payAt G c false (some (some x)) := by
  rw [Finset.sdiff_empty, duties_cell]
  show bigSep {false} _ = _
  rw [bigSep_singleton, payload_cell]

end Sched

/-! ## What a device owes, and the levels -/

/-- The credits of its last `n` sends. -/
def orem (c : Dev nD) : ℕ → CellTallies nD τ sig Unit
  | 0 => 0
  | n + 1 => orem c n + tallyAt (recvCell (nxt c) ⟨5 - n, by omega⟩) () N

/-- What a device owes after its first signal, and at launch. -/
def O₁ (c : Dev nD) : CellTallies nD τ sig Unit := orem c 6 + tallyAt (barCell (nxt c)) () 1
def O₀ (c : Dev nD) : CellTallies nD τ sig Unit := O₁ c + tallyAt (barCell (prv c)) () 1

theorem orem_step (c : Dev nD) (t : Fin 6) : orem c (6 - t.val) = orem c (5 - t.val) + tallyAt (recvCell (nxt c) t) () N := by
  fin_cases t <;> rfl

def L (g : GSem nD τ sig) : Finset Unit := if g.1.2 = .tc then {()} else ∅
def lvAt : Option KI → ℕ
  | some none => 1
  | some (some (true, t)) => 2 + t.val
  | _ => 0
/-- Barrier cells at 1, receive cell `t` at `2 + t`, everything else at 0. -/
def lv (g : GSem nD τ sig) (_ : Unit) : ℕ := lvAt (kOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × KI) (u : Unit) : lv (kcell ck) u = lvAt (some ck.2) := congrArg lvAt (kOf_csem ck.2)

theorem kOf_none {s : SemLoc sig} (h : ∀ k, csem k ≠ s) : kOf s = none := by
  unfold kOf
  rw [Finset.filter_false_of_mem fun k _ => h k]
  simp

theorem orem_pos {c : Dev nD} {n : ℕ} {g : GSem nD τ sig} {u : Unit} (h : 0 < orem c n g u) :
    ∃ t : Fin 6, 6 ≤ n + t.val ∧ g = recvCell (nxt c) t := by
  induction n with
  | zero => exact absurd h (Nat.lt_irrefl 0)
  | succ n ih =>
    unfold orem at h
    rw [Pi.add_apply, Finsupp.add_apply, tallyAt_apply] at h
    by_cases hg : g = recvCell (nxt c) ⟨5 - n, by omega⟩ ∧ u = ()
    · exact ⟨_, by show 6 ≤ n + 1 + (5 - n); omega, hg.1⟩
    · rw [if_neg hg, Nat.add_zero] at h
      obtain ⟨t, h1, h2⟩ := ih h
      exact ⟨t, by omega, h2⟩

/-- A wait on a cell lower than the sends still owed. -/
theorem mayWait_rem (c : Dev nD) (n : ℕ) (sm : SemLoc sig) (l : ℕ) (hsm : lvAt (kOf sm) ≤ l) (hl : l + n < 8) :
    (levAts L lv : sProp 𝕄) ⊢ MayWait (c : Thread nD τ) sm () (orem c n) :=
  MayOwe.of_cut (L := L) (lev := lv) l (fun p hp => by rw [Finset.mem_singleton.mp hp, L_tc]; exact Finset.mem_singleton_self _)
    (fun g u hg => by obtain ⟨t, -, rfl⟩ := orem_pos hg; exact Finset.mem_singleton_self _)
    (fun p hp => by rw [Finset.mem_singleton.mp hp]; exact hsm)
    (fun g u hg => by
      obtain ⟨t, h1, rfl⟩ := orem_pos hg
      rw [lv_cell]
      show l < 2 + t.val
      omega)

theorem O₀_pos {c : Dev nD} {g : GSem nD τ sig} {u : Unit} (h : 0 < O₀ c g u) :
    ∃ ck : Dev nD × KI, g = kcell ck ∧ 0 < lvAt (some ck.2) := by
  unfold O₀ O₁ at h
  rw [Pi.add_apply, Finsupp.add_apply, Pi.add_apply, Finsupp.add_apply, tallyAt_apply, tallyAt_apply] at h
  by_cases h1 : g = barCell (prv c) ∧ u = ()
  · exact ⟨_, h1.1, Nat.one_pos⟩
  by_cases h2 : g = barCell (nxt c) ∧ u = ()
  · exact ⟨_, h2.1, Nat.one_pos⟩
  rw [if_neg h1, if_neg h2, Nat.add_zero] at h
  obtain ⟨t, -, hg⟩ := orem_pos h
  exact ⟨_, hg, by show 0 < 2 + t.val; omega⟩

/-- A wait of the pipeline itself, at launch or at the end. -/
theorem mayWait_stage (c : Dev nD) (sm : SemLoc sig) (hsm : lvAt (kOf sm) = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by obtain ⟨ck, rfl, -⟩ := O₀_pos hg; exact Finset.mem_singleton_self _)
      (fun p hp => by rw [Finset.mem_singleton.mp hp]; exact hsm.le)
      (fun g u hg => by obtain ⟨ck, rfl, h⟩ := O₀_pos hg; rw [lv_cell]; exact h)
  · rw [MayWait_zero]; iintro -; iempintro

end Cert.KernelIdealProof
-- ==== Proof.Exchange.lean ====
/-
# `Exchange`: the six steps of the exchange

A step of the reduce-scatter sends a chunk's running sum, waits for both ends, and adds its own part to the sum that
landed. A step of the all-gather sends a finished chunk and waits for both ends.
-/
module

public import proofs.«01_k».proof.Proof.Ring

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (G : Dev nD → S2048x1024.Idx → Elt F .bf16)

/-! ## What every device may use at any time -/

/-- Every cell's invariant, that every cell reached round 0, and the levels. -/
def records (K : Dev nD × KI → ℕ) : sProp 𝕄 :=
  iprop((bigSep Finset.univ fun ck : Dev nD × KI => cellInv ER (ringRd G) (K ck) (kcell ck))
    ∗ (bigSep Finset.univ fun ck : Dev nD × KI => reached ER (kcell ck) 0) ∗ levAts L lv)

instance records_persistent (K : Dev nD × KI → ℕ) : BI.Persistent (records G K) := by unfold records; infer_instance

theorem inv_at (K : Dev nD × KI → ℕ) (ck : Dev nD × KI) : records G K ⊢ cellInv ER (ringRd G) (K ck) (kcell ck) := by
  unfold records
  exact sep_elim_left.trans (bigSep_elim (Finset.mem_univ ck))
theorem reached_at (K : Dev nD × KI → ℕ) (ck : Dev nD × KI) : records G K ⊢ (reached ER (kcell ck) 0 : sProp 𝕄) := by
  unfold records
  exact sep_elim_right.trans (sep_elim_left.trans (bigSep_elim (Finset.mem_univ ck)))
theorem levels_at (K : Dev nD × KI → ℕ) : records G K ⊢ (levAts L lv : sProp 𝕄) := by
  unfold records
  exact sep_elim_right.trans sep_elim_right

/-! ## Steps of the two halves -/

/-- Step `t` of the reduce-scatter, and of the all-gather. -/
abbrev lo (t : Fin 3) : Fin 6 := ⟨t.val, by omega⟩
abbrev hi (t : Fin 3) : Fin 6 := ⟨t.val + 3, by omega⟩

theorem landed_lo (c : Dev nD) (t : Fin 3) : landed G c (lo t) = slPts c t (commVal G c t.val) := by fin_cases t <;> rfl
theorem landed_hi (c : Dev nD) (t : Fin 3) : landed G c (hi t) = chPts c (ck c t.val) (finalOut G) := by fin_cases t <;> rfl
theorem sendPay_lo (c : Dev nD) (t : Fin 3) : sendPay G c (lo t) = iprop(emp) := by fin_cases t <;> rfl
theorem ck_period (c : Dev nD) (t : Fin 3) : ck c (t.val + 4) = ck c t.val := by revert c t; decide
theorem ck_nxt (c : Dev nD) (t : Fin 3) : ck (nxt c) (t.val + 1) = ck c t.val := by revert c t; decide
theorem ck_nxt' (c : Dev nD) (t : Fin 3) : ck (nxt c) t.val = ck c (t.val + 3) := by revert c t; decide
theorem sendPay_hi (c : Dev nD) (t : Fin 3) : sendPay G c (hi t) = chPts c (ck c (t.val + 3)) (finalOut G) := by
  fin_cases t
  · rfl
  · exact congrArg (fun k => chPts c k (finalOut G)) (ck_period c 0).symm
  · exact congrArg (fun k => chPts c k (finalOut G)) (ck_period c 1).symm

/-- The leaves passed on with step `t`, besides the one that the step itself gives up or uses. -/
def passLo (c : Dev nD) : Fin 3 → sProp 𝕄
  | 0 => iprop(emp)
  | 1 => fwd c 0
  | 2 => fwd c 1
def passHi (c : Dev nD) : Fin 3 → sProp 𝕄
  | 0 => iprop(leave (prv c) 2 ∗ leave (prv (prv c)) 1)
  | 1 => leave (prv (prv c)) 2
  | 2 => iprop(emp)

theorem fwd_lo (c : Dev nD) (t : Fin 3) : iprop(passLo (F := F) c t ∗ leave c t.val) ⊢ fwd (nxt c) (lo t) := by
  fin_cases t
  · show iprop(emp ∗ leave c 0) ⊢ leave (prv (nxt c)) 0
    rw [prv_nxt]
    iintro ⟨-, H⟩; iexact H
  · show iprop(leave (prv c) 0 ∗ leave c 1) ⊢ iprop(leave (prv (nxt c)) 1 ∗ leave (prv (prv (nxt c))) 0)
    rw [prv_nxt]
    exact sep_comm
  · show iprop((leave (prv c) 1 ∗ leave (prv (prv c)) 0) ∗ leave c 2)
      ⊢ iprop(leave (prv (nxt c)) 2 ∗ leave (prv (prv (nxt c))) 1 ∗ leave (prv (prv (prv (nxt c)))) 0)
    rw [prv_nxt]
    exact sep_comm

theorem fwd_hi (c : Dev nD) (t : Fin 3) : passHi (F := F) c t = fwd (nxt c) (hi t) := by
  fin_cases t
  · show iprop(leave (prv c) 2 ∗ leave (prv (prv c)) 1) = iprop(leave (prv (prv (nxt c))) 2 ∗ leave (prv (prv (prv (nxt c)))) 1)
    rw [prv_nxt]
  · show leave (prv (prv c)) 2 = leave (prv (prv (prv (nxt c)))) 2
    rw [prv_nxt]
  · rfl

/-- What a device gives and has for step `t`: the tokens it pays with, its positions, its receive cell's credit. -/
def stepRes (c : Dev nD) (t : Fin 6) : sProp 𝕄 :=
  iprop(dutyTok ER (sendCell c t) 0 false ∗ dutyTok ER (recvCell (nxt c) t) 0 false
    ∗ atPos ER (sendCell c t) 0 ∅ 0 ∗ atPos ER (recvCell c t) 0 ∅ 0 ∗ cred (tallyAt (recvCell c t) () N))
/-- What is left of it: both cells at zero. -/
def stepEnd (c : Dev nD) (t : Fin 6) : sProp 𝕄 := iprop(semVal (sendCell c t) 0 ∗ semVal (recvCell c t) 0)

/-! ## A send -/

theorem commVal_landed (c : Dev nD) (t : Fin 3) (fn : S3x512x1024.Idx → Elt F .bf16) (x : S3x512x1024.Idx) (hx : x ∈ slSet t) :
    (slotM t).view.write (Elt F) fn ((chunkM (ck c t.val)).view.read (Elt F) (acc G t.val c)) Finset.univ x = commVal G (nxt c) t.val x := by
  rw [slot_write_chunk t _ _ _ x hx]
  unfold commVal
  rw [prv_nxt, ck_nxt]

set_option maxHeartbeats 400000 in
theorem lo_send (K : Dev nD × KI → ℕ) (c n : Dev nD) (t : Fin 3) (src : Memref sig .tc .vmem S512x1024 .bf16)
    (dst : Memref sig (Dev.tc n : Thread nD τ).2.kind .vmem S512x1024 .bf16) (sS sR : DmaSem sig)
    (hn : n = nxt c) (hsE : src = chunkM (ck c t.val)) (hdE : dst = slotM t) (hS : sS = sendS (lo t)) (hR : sR = recvS (lo t))
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → KProg F α} :
    iprop(records G K ∗ chPts c (ck c t.val) (acc G t.val c) ∗ slAny (nxt c) t ∗ passLo c t ∗ (∃ W, owes (c : Thread nD τ) (orem c (6 - t.val)) W)
        ∗ dutyTok ER (sendCell c (lo t)) 0 false ∗ dutyTok ER (recvCell (nxt c) (lo t)) 0 false)
      ⊢ iprop(((cred (tallyAt (sendCell c (lo t)) () N) ∗ (∃ W, owes (c : Thread nD τ) (orem c (5 - t.val)) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsE hdE hS hR
  unfold slAny
  iintro ⟨#HR, Hc, ⟨%fn, Hs⟩, HP, ⟨%W, HO⟩, Ht, Ht'⟩ Hk
  iapply (Rounds.wp_send_landing_pointsTo_with 𝒱₀ ER (ringRd G) (c : Thread nD τ) none (κ₁ := K (c, some (false, lo t))) (κ₂ := K (nxt c, some (true, lo t)))
      (c' := (nxt c : Thread nD τ)) (src := chunkM (ck c t.val)) (dst := slotM t) (sS := .dma (sendS (lo t))) (sem := .dma (recvS (lo t)))
      (r₁ := 0) (r₂ := 0) (d₁ := false) (d₂ := false) (fd := fn) (fs := acc G t.val c) (F := passLo c t) (q := fullShare)
      (by rw [show ((c : Thread nD τ), SemLoc.dma (sendS (lo t))) = sendCell c (lo t) from rfl, duties_cell]; exact Finset.mem_singleton_self _)
      (by rw [show ((nxt c : Thread nD τ), SemLoc.dma (recvS (lo t))) = recvCell (nxt c) (lo t) from rfl, duties_cell]; exact Finset.mem_singleton_self _)
      () () N (credit_slot t) (amount_cell G c (some (false, lo t)) false) (amount_cell G (nxt c) (some (true, lo t)) false) (orem c (5 - t.val)) (orem_step c (lo t)) (W := W)
      ((Entails.of_eq (sendPay_lo G c t).symm).trans (Entails.of_eq (payload_cell G c (some (false, lo t)) false).symm))
      (by
        refine BIBase.Entails.trans ?_ (Entails.of_eq (payload_cell G (nxt c) (some (true, lo t)) false).symm)
        show _ ⊢ recvPay G (nxt c) (lo t)
        unfold recvPay
        rw [landed_lo]
        iintro ⟨⟨Hs, HP⟩, Hc⟩
        isplitl [Hs]
        · unfold slPts
          iapply (Entails.of_eq (pointsTo_congr fun x hx => commVal_landed G c t fn x (by rw [← slotM_set]; exact hx))); iexact Hs
        · iapply (fwd_lo c t)
          isplitl [HP]; · iexact HP
          unfold leave
          iexists (acc G t.val c); unfold chPts; iexact Hc)) $$ [Hc Hs HP HO Ht Ht']
  · isplitr; · iapply (inv_at G K (c, some (false, lo t))); iexact HR
    isplitr; · iapply (inv_at G K (nxt c, some (true, lo t))); iexact HR
    isplitl [Hc]; · unfold chPts; iexact Hc
    isplitl [Hs HP]
    · isplitl [Hs]; · unfold slPts; iexact Hs
      iexact HP
    isplitl [HO]; · iexact HO
    isplitl [Ht]; · iexact Ht
    isplitr; · iapply (reached_at G K (c, some (false, lo t))); iexact HR
    isplitl [Ht']; · iexact Ht'
    iapply (reached_at G K (nxt c, some (true, lo t))); iexact HR
  iintro ⟨Hcr, HO⟩
  iapply Hk
  isplitl [Hcr]; · iexact Hcr
  iexists W; iexact HO

set_option maxHeartbeats 400000 in
theorem hi_send (K : Dev nD × KI → ℕ) (c n : Dev nD) (t : Fin 3) (src : Memref sig .tc .vmem S512x1024 .bf16)
    (dst : Memref sig (Dev.tc n : Thread nD τ).2.kind .vmem S512x1024 .bf16) (sS sR : DmaSem sig)
    (hn : n = nxt c) (hsE : src = chunkM (ck c (t.val + 3))) (hdE : dst = chunkM (ck c (t.val + 3))) (hS : sS = sendS (hi t)) (hR : sR = recvS (hi t))
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → KProg F α} :
    iprop(records G K ∗ chPts c (ck c (t.val + 3)) (finalOut G) ∗ leave (nxt c) t.val ∗ passHi c t ∗ (∃ W, owes (c : Thread nD τ) (orem c (6 - (hi t).val)) W)
        ∗ dutyTok ER (sendCell c (hi t)) 0 false ∗ dutyTok ER (recvCell (nxt c) (hi t)) 0 false)
      ⊢ iprop(((cred (tallyAt (sendCell c (hi t)) () N) ∗ (∃ W, owes (c : Thread nD τ) (orem c (5 - (hi t).val)) W))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hsE hdE hS hR
  unfold leave
  rw [ck_nxt']
  iintro ⟨#HR, Hc, ⟨%fn, Hs⟩, HP, ⟨%W, HO⟩, Ht, Ht'⟩ Hk
  iapply (Rounds.wp_send_pointsTo_with 𝒱₀ ER (ringRd G) (c : Thread nD τ) none (κ₁ := K (c, some (false, hi t))) (κ₂ := K (nxt c, some (true, hi t)))
      (c' := (nxt c : Thread nD τ)) (src := chunkM (ck c (t.val + 3))) (dst := chunkM (ck c (t.val + 3))) (sS := .dma (sendS (hi t))) (sem := .dma (recvS (hi t)))
      (r₁ := 0) (r₂ := 0) (d₁ := false) (d₂ := false) (fd := fn) (fs := finalOut G) (F := passHi c t) (q := fullShare)
      (by rw [show ((c : Thread nD τ), SemLoc.dma (sendS (hi t))) = sendCell c (hi t) from rfl, duties_cell]; exact Finset.mem_singleton_self _)
      (by rw [show ((nxt c : Thread nD τ), SemLoc.dma (recvS (hi t))) = recvCell (nxt c) (hi t) from rfl, duties_cell]; exact Finset.mem_singleton_self _)
      () () N (credit_chunk _) (amount_cell G c (some (false, hi t)) false) (amount_cell G (nxt c) (some (true, hi t)) false) (orem c (5 - (hi t).val)) (orem_step c (hi t)) (W := W)
      (BIBase.Entails.trans (Entails.of_eq (show _ = sendPay G c (hi t) from (sendPay_hi G c t).symm)) (Entails.of_eq (payload_cell G c (some (false, hi t)) false).symm))
      (by
        refine BIBase.Entails.trans ?_ (Entails.of_eq (payload_cell G (nxt c) (some (true, hi t)) false).symm)
        show _ ⊢ recvPay G (nxt c) (hi t)
        unfold recvPay
        rw [landed_hi, fwd_hi, ck_nxt']
        refine sep_mono_left (Entails.of_eq ?_)
        unfold chPts
        exact pointsTo_congr fun x hx => chunk_write_chunk _ fn _ x (by rw [← chunkM_set]; exact hx))) $$ [Hc Hs HP HO Ht Ht']
  · isplitr; · iapply (inv_at G K (c, some (false, hi t))); iexact HR
    isplitr; · iapply (inv_at G K (nxt c, some (true, hi t))); iexact HR
    isplitl [Hc]; · unfold chPts; iexact Hc
    isplitl [Hs HP]
    · isplitl [Hs]; · unfold chPts; iexact Hs
      iexact HP
    isplitl [HO]; · iexact HO
    isplitl [Ht]; · iexact Ht
    isplitr; · iapply (reached_at G K (c, some (false, hi t))); iexact HR
    isplitl [Ht']; · iexact Ht'
    iapply (reached_at G K (nxt c, some (true, hi t))); iexact HR
  iintro ⟨Hcr, HO⟩
  iapply Hk
  isplitl [Hcr]; · iexact Hcr
  iexists W; iexact HO

/-! ## A wait -/

/-- A wait on a send or receive cell for a chunk's credit: the cell's payload, and the cell back at zero. -/
theorem wait_cell (K : Dev nD × KI → ℕ) (c : Dev nD) (x : Bool × Fin 6) (n : ℕ) (hn : lvAt (some (some x)) + n < 8)
    (s : DmaSem sig) (src dst : Memref sig .tc .vmem S512x1024 .bf16)
    (hs : SemLoc.dma s = csem (some x)) (hN : dst.view.dmaCredit = N)
    {hsrc : src.view.WordExact} {hdst : dst.view.WordExact}
    {α : Type} {Q : α → sProp 𝕄} {k : PUnit → KProg F α} :
    iprop(records G K ∗ cred (tallyAt (kcell (c, some x)) () N) ∗ (∃ W, owes (c : Thread nD τ) (orem c n) W) ∗ atPos ER (kcell (c, some x)) 0 ∅ 0)
      ⊢ iprop((((∃ W, owes (c : Thread nD τ) (orem c n) W) ∗ semVal (kcell (c, some x)) 0 ∗ payAt G c false (some (some x)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  unfold kcell
  simp only
  rw [← hs]
  iintro ⟨#HR, Hcr, ⟨%W, HO⟩, Hat⟩ Hk
  iapply (Rounds.wp_wait_rest_token 𝒱₀ ER (ringRd G) (c : Thread nD τ) none (κ := K (c, some x))
      (wpE_waitDma2_eq 𝒱₀ (c : Thread nD τ) none Set.univ) (Set.mem_univ _) () (O := orem c n) (W := W) (R := 0) (m := 0) (T := ∅)
      (by rw [Nat.zero_add, hN, hs]; exact (expect_xfer G c x).symm)) $$ [Hcr HO Hat]
  · isplitr; · rw [hs]; iapply (inv_at G K (c, some x)); iexact HR
    isplitl [Hcr]; · rw [hN]; iexact Hcr
    isplitl [HO]; · iexact HO
    isplitr
    · iapply (mayWait_rem c n (.dma s) (lvAt (some (some x))) (by rw [hs, kOf_csem]) hn)
      iapply (levels_at G K); iexact HR
    iexact Hat
  iintro ⟨HO, Hat, -, Hpay⟩
  imod (Rounds.cell_close ER (ringRd G) (Set.mem_univ (K (c, some x))) (fun h => h) (R := 0 + 1) (duties_later G _)) $$ [Hat] with Hz
  · isplitr; · iapply (inv_at G K (c, some x)); iexact HR
    rw [hs]
    iexact Hat
  iapply Hk
  isplitl [HO]; · iexists _; iexact HO
  isplitl [Hz]; · rw [hs]; iexact Hz
  rw [hs]
  iapply (Entails.of_eq (rest_xfer G c x)); iexact Hpay

/-! ## An addition -/

theorem acc_written (c : Dev nD) (t : Fin 3) (f : S2048x1024.Idx → Elt F .bf16)
    (pay : (S512x1024.Idx → Elt F .bf16) → (S1x512x1024.Idx → Elt F .bf16) → S512x1024.Idx → Elt F .bf16)
    (hpay : ∀ v w, pay v w = addf (shapeCast S512x1024 v shapeCasts_S512x1024_S512x1024) (shapeCast S512x1024 w shapeCasts_S1x512x1024_S512x1024))
    (x : S2048x1024.Idx) (hx : x ∈ chSet (ck c (t.val + 1))) :
    (chunkM (ck c (t.val + 1))).view.write (Elt F) f
      (pay ((chunkM (ck c (t.val + 1))).view.read (Elt F) (G c)) ((comM.access (slotR t)).read (Elt F) (commVal G c t.val))) Finset.univ x
      = acc G (t.val + 1) c x := by
  rw [← chunkM_set] at hx
  obtain ⟨j, -, rfl⟩ := Finset.mem_map.mp hx
  refine (View.write_emb_of_mem (v := (chunkM (ck c (t.val + 1))).view) f _ (Finset.mem_univ j)).trans ?_
  refine (congrFun (hpay _ _) j).trans ?_
  rw [shapeCast_self]
  obtain ⟨h0, h1, h2⟩ := slEmb_val t j
  obtain ⟨c0, c1⟩ := chEmb_val (ck c (t.val + 1)) j
  show FloatOps.addf (G c (chEmb (ck c (t.val + 1)) j)) (commVal G c t.val (slEmb t j)) = FloatOps.addf (G c (chEmb (ck c (t.val + 1)) j)) (acc G t.val (prv c) (chEmb (ck c (t.val + 1)) j))
  congr 1
  unfold commVal
  congr 1
  funext a
  fin_cases a
  · apply Fin.ext
    refine Eq.trans ?_ c0.symm
    show 512 * (ck c (t.val + 1)).val + (slEmb t j 1).val = _
    rw [h1]
  · apply Fin.ext
    exact h2.trans c1.symm

theorem chPts_acc (c : Dev nD) (k : Fin 4) (f : S2048x1024.Idx → Elt F .bf16) :
    chPts c k f = ((outM.access (chunkR k)).loc (c : Thread nD τ) ↦[(outM.access (chunkR k)).set]{fullShare} (f : Buf (Elt F) ((outM.access (chunkR k)).loc (c : Thread nD τ)))) := rfl
theorem slPts_acc (c : Dev nD) (t : Fin 3) (f : S3x512x1024.Idx → Elt F .bf16) :
    slPts c t f = ((comM.access (slotR t)).loc (c : Thread nD τ) ↦[(comM.access (slotR t)).set]{fullShare} (f : Buf (Elt F) ((comM.access (slotR t)).loc (c : Thread nD τ)))) := by
  have e : (slotM t).view.set = (comM.access (slotR t)).set := (slotM_set t).trans ((slotR_set t).symm.trans (View.set_slice_whole cc0_scratch1 (slotR t)).symm)
  exact congrArg (fun S => pointsTo ((slotM t).view.loc (c : Thread nD τ)) S fullShare f) e

theorem acc_step (c : Dev nD) (t : Fin 3) (o : Fin 2 → ℕ) (o3 : Fin 3 → ℕ)
    (ho : o = ![512 * (ck c (t.val + 1)).val, 0]) (ho3 : o3 = ![t.val, 0, 0])
    (inb : ∀ a, o a + S512x1024.size a ≤ S2048x1024.size a) (inb3 : ∀ a, o3 a + S1x512x1024.size a ≤ S3x512x1024.size a)
    (pay : (S512x1024.Idx → Elt F .bf16) → (S1x512x1024.Idx → Elt F .bf16) → S512x1024.Idx → Elt F .bf16)
    (hpay : ∀ v w, pay v w = addf (shapeCast S512x1024 v shapeCasts_S512x1024_S512x1024) (shapeCast S512x1024 w shapeCasts_S1x512x1024_S512x1024))
    {h1 h2 h3 h4 h5} {α : Type} {Q : α → sProp 𝕄} {k : PUnit → KProg F α} :
    iprop(chPts c (ck c (t.val + 1)) (G c) ∗ slPts c t (commVal G c t.val))
      ⊢ iprop(((chPts c (ck c (t.val + 1)) (acc G (t.val + 1) c) ∗ slPts c t (commVal G c t.val))
            -∗ wp frame (wpE (defs₀ (F := F)) 𝒱₀ (c : Thread nD τ) none) Set.univ (k ⟨⟩) Q)
          -∗ wp frame (wpE (defs₀ (F := F)) 𝒱₀ (c : Thread nD τ) none) Set.univ
              ((.op (.load outM (Rect.unit (s := S2048x1024) o S512x1024.size inb).toLoadRect h1) fun v =>
                .op (.load comM (Rect.unit (s := S3x512x1024) o3 S1x512x1024.size inb3).toLoadRect h2) fun w =>
                .op (.load outM (Rect.unit (s := S2048x1024) o S512x1024.size inb).toLoadRect h3) fun _ =>
                .op (.store outM (Rect.unit (s := S2048x1024) o S512x1024.size inb) (pay v w) Finset.univ h4 h5) k) : KProg F α) Q) := by
  subst ho ho3
  rw [chPts_acc, slPts_acc]
  iintro ⟨Hc, Hs⟩ Hk
  iapply (wp_load_rect 𝒱₀ (c : Thread nD τ) none Set.univ (m := outM) (r := chunkR (ck c (t.val + 1))) (Finset.Subset.refl _)) $$ Hc
  iintro Hc
  iapply (wp_load_rect 𝒱₀ (c : Thread nD τ) none Set.univ (m := comM) (r := slotR t) (Finset.Subset.refl _)) $$ Hs
  iintro Hs
  iapply (wp_load_rect 𝒱₀ (c : Thread nD τ) none Set.univ (m := outM) (r := chunkR (ck c (t.val + 1))) (Finset.Subset.refl _)) $$ Hc
  iintro Hc
  iapply (wp_store 𝒱₀ (c : Thread nD τ) none Set.univ (m := outM) (r := chunkR (ck c (t.val + 1))) (Mk := Finset.univ)
    (S := (outM.access (chunkR (ck c (t.val + 1)))).set) (Finset.Subset.refl _)) $$ Hc
  iintro Hc
  iapply Hk
  isplitl [Hc]
  · rw [chPts_acc]
    iapply (Entails.of_eq (pointsTo_congr fun x hx => acc_written G c t (G c) pay hpay x (by rw [← chunkM_set]; exact hx))); iexact Hc
  · iexact Hs

theorem final_own (c : Dev nD) (x : S2048x1024.Idx) (hx : x ∈ chSet (ck c 3)) : acc G 3 c x = finalOut G x := by
  have h := mem_chSet.mp hx
  unfold finalOut
  congr 1
  have e : ∀ c : Dev nD, c = prv ⟨(ck c 3).val % 4, Nat.mod_lt _ (by decide)⟩ := by decide
  refine (e c).trans ?_
  congr 1
  exact Fin.ext (by show (ck c 3).val % 4 = (x 0).val / 512 % 4; rw [h])

theorem chPts_final (c : Dev nD) : chPts c (ck c 3) (acc G 3 c) = chPts c (ck c 3) (finalOut G) := by
  unfold chPts
  exact pointsTo_congr fun x hx => final_own G c x (by rw [← chunkM_set]; exact hx)

/-! ## Whole steps -/

theorem out_slice_eq (k : Fin 4) (o : Fin 2 → ℕ) (ho : o = ![512 * k.val, 0]) (inb : ∀ a, o a + S512x1024.size a ≤ S2048x1024.size a) :
    outM.slice (Rect.unit (s := S2048x1024) o S512x1024.size inb) (fun _ => rfl) = chunkM k := by
  subst ho
  rfl

theorem lo_step (K : Dev nD × KI → ℕ) (c n : Dev nD) (t : Fin 3) (src slot : Memref sig .tc .vmem S512x1024 .bf16)
    (dst : Memref sig (Dev.tc n : Thread nD τ).2.kind .vmem S512x1024 .bf16) (sS sR : DmaSem sig)
    (hn : n = nxt c) (hsE : src = chunkM (ck c t.val)) (hdE : dst = slotM t) (hlE : slot = slotM t) (hS : sS = sendS (lo t)) (hR : sR = recvS (lo t))
    {o : Fin 2 → ℕ} {o3 : Fin 3 → ℕ} (ho : o = ![512 * (ck c (t.val + 1)).val, 0]) (ho3 : o3 = ![t.val, 0, 0])
    {inb : ∀ a, o a + S512x1024.size a ≤ S2048x1024.size a} {inb3 : ∀ a, o3 a + S1x512x1024.size a ≤ S3x512x1024.size a}
    (pay : (S512x1024.Idx → Elt F .bf16) → (S1x512x1024.Idx → Elt F .bf16) → S512x1024.Idx → Elt F .bf16)
    (hpay : ∀ v w, pay v w = addf (shapeCast S512x1024 v shapeCasts_S512x1024_S512x1024) (shapeCast S512x1024 w shapeCasts_S1x512x1024_S512x1024))
    {hsc : dst.view.ref.isScScratch = false} {hsrc : src.view.WordExact} {hdst : dst.view.WordExact}
    {hsem : DmaTarget.Typed .vmem (.dma sR) (.remote (Dev.tc n : Thread nD τ) dst (.dma sS) hsc)}
    {w1 : slot.view.WordExact} {w2 : src.view.WordExact}
    {h1 h2 h3 h4 h5} {α : Type} {Q : α → sProp 𝕄} {k : PUnit → KProg F α} :
    iprop(records G K ∗ stepRes c (lo t) ∗ chPts c (ck c t.val) (acc G t.val c) ∗ chPts c (ck c (t.val + 1)) (G c)
        ∗ slAny (nxt c) t ∗ passLo c t ∗ (∃ W, owes (c : Thread nD τ) (orem c (6 - t.val)) W))
      ⊢ iprop(((stepEnd c (lo t) ∗ chPts c (ck c (t.val + 1)) (acc G (t.val + 1) c) ∗ slAny c t ∗ fwd c (lo t)
              ∗ (∃ W, owes (c : Thread nD τ) (orem c (5 - t.val)) W))
            -∗ wp frame (wpE (defs₀ (F := F)) 𝒱₀ (c : Thread nD τ) none) Set.univ (k ⟨⟩) Q)
          -∗ wp frame (wpE (defs₀ (F := F)) 𝒱₀ (c : Thread nD τ) none) Set.univ
              ((.op (.enqueueDma src (.remote (Dev.tc n : Thread nD τ) dst (.dma sS) hsc) (.dma sR) hsrc hdst hsem) fun _ =>
                .op (.waitDma2 sS slot src w1 w2) fun _ =>
                .op (.waitDma2 sR src slot w2 w1) fun _ =>
                .op (.load outM (Rect.unit (s := S2048x1024) o S512x1024.size inb).toLoadRect h1) fun v =>
                .op (.load comM (Rect.unit (s := S3x512x1024) o3 S1x512x1024.size inb3).toLoadRect h2) fun w =>
                .op (.load outM (Rect.unit (s := S2048x1024) o S512x1024.size inb).toLoadRect h3) fun _ =>
                .op (.store outM (Rect.unit (s := S2048x1024) o S512x1024.size inb) (pay v w) Finset.univ h4 h5) k) : KProg F α) Q) := by
  unfold stepRes stepEnd
  iintro ⟨#HR, ⟨Ht, Ht', HaS, HaR, HcR⟩, Hc, Hown, Hs, HP, HO⟩ Hk
  iapply (lo_send G K c n t src dst sS sR hn hsE hdE hS hR) $$ [Ht Ht' Hc Hs HP HO]
  · isplitr; · iexact HR
    isplitl [Hc]; · iexact Hc
    isplitl [Hs]; · iexact Hs
    isplitl [HP]; · iexact HP
    isplitl [HO]; · iexact HO
    isplitl [Ht] <;> iassumption
  iintro ⟨HcS, HO⟩
  iapply (wait_cell G K c (false, lo t) (5 - t.val) (by show 0 + _ < 8; omega) sS slot src (by rw [hS]; rfl) (hsE ▸ credit_chunk _)) $$ [HcS HO HaS]
  · isplitr; · iexact HR
    isplitl [HcS]; · iexact HcS
    isplitl [HO] <;> iassumption
  iintro ⟨HO, HzS, -⟩
  iapply (wait_cell G K c (true, lo t) (5 - t.val) (by show 2 + t.val + _ < 8; omega) sR src slot (by rw [hR]; rfl) (hlE ▸ credit_slot _)) $$ [HcR HO HaR]
  · isplitr; · iexact HR
    isplitl [HcR]; · iexact HcR
    isplitl [HO] <;> iassumption
  iintro ⟨HO, HzR, Hpay⟩
  ihave Hp := (show payAt G c false (some (some (true, lo t))) ⊢ iprop(slPts c t (commVal G c t.val) ∗ fwd c (lo t)) from Entails.of_eq (by
    show recvPay G c (lo t) = _
    unfold recvPay
    rw [landed_lo])) $$ Hpay
  icases Hp with ⟨Hl, Hf⟩
  iapply (acc_step G c t o o3 ho ho3 inb inb3 pay hpay) $$ [Hown Hl]
  · isplitl [Hown] <;> iassumption
  iintro ⟨Hown, Hl⟩
  iapply Hk
  isplitl [HzS HzR]; · (isplitl [HzS] <;> iassumption)
  isplitl [Hown]; · iexact Hown
  isplitl [Hl]; · unfold slAny; iexists _; iexact Hl
  isplitl [Hf] <;> iassumption

theorem hi_step (K : Dev nD × KI → ℕ) (c n : Dev nD) (t : Fin 3) (src : Memref sig .tc .vmem S512x1024 .bf16)
    (dst : Memref sig (Dev.tc n : Thread nD τ).2.kind .vmem S512x1024 .bf16) (sS sR : DmaSem sig)
    (hn : n = nxt c) (hsE : src = chunkM (ck c (t.val + 3))) (hdE : dst = chunkM (ck c (t.val + 3))) (hS : sS = sendS (hi t)) (hR : sR = recvS (hi t))
    {hsc : dst.view.ref.isScScratch = false} {hsrc : src.view.WordExact} {hdst : dst.view.WordExact}
    {hsem : DmaTarget.Typed .vmem (.dma sR) (.remote (Dev.tc n : Thread nD τ) dst (.dma sS) hsc)}
    {w1 w2 : src.view.WordExact}
    {α : Type} {Q : α → sProp 𝕄} {k : PUnit → KProg F α} :
    iprop(records G K ∗ stepRes c (hi t) ∗ chPts c (ck c (t.val + 3)) (finalOut G)
        ∗ leave (nxt c) t.val ∗ passHi c t ∗ (∃ W, owes (c : Thread nD τ) (orem c (3 - t.val)) W))
      ⊢ iprop(((stepEnd c (hi t) ∗ chPts c (ck c (t.val + 3)) (finalOut G) ∗ chPts c (ck c t.val) (finalOut G) ∗ fwd c (hi t)
              ∗ (∃ W, owes (c : Thread nD τ) (orem c (2 - t.val)) W))
            -∗ wp frame (wpE (defs₀ (F := F)) 𝒱₀ (c : Thread nD τ) none) Set.univ (k ⟨⟩) Q)
          -∗ wp frame (wpE (defs₀ (F := F)) 𝒱₀ (c : Thread nD τ) none) Set.univ
              ((.op (.enqueueDma src (.remote (Dev.tc n : Thread nD τ) dst (.dma sS) hsc) (.dma sR) hsrc hdst hsem) fun _ =>
                .op (.waitDma2 sS src src w1 w2) fun _ =>
                .op (.waitDma2 sR src src w1 w2) k) : KProg F α) Q) := by
  unfold stepRes stepEnd
  iintro ⟨#HR, ⟨Ht, Ht', HaS, HaR, HcR⟩, Hc, Hs, HP, HO⟩ Hk
  iapply (hi_send G K c n t src dst sS sR hn hsE hdE hS hR) $$ [Ht Ht' Hc Hs HP HO]
  · isplitr; · iexact HR
    isplitl [Hc]; · iexact Hc
    isplitl [Hs]; · iexact Hs
    isplitl [HP]; · iexact HP
    isplitl [HO]; · rw [show 6 - (hi t).val = 3 - t.val by show 6 - (t.val + 3) = _; omega]; iexact HO
    isplitl [Ht] <;> iassumption
  iintro ⟨HcS, HO⟩
  rw [show 5 - (hi t).val = 2 - t.val by show 5 - (t.val + 3) = _; omega]
  iapply (wait_cell G K c (false, hi t) (2 - t.val) (by show 0 + _ < 8; omega) sS src src (by rw [hS]; rfl) (hsE ▸ credit_chunk _)) $$ [HcS HO HaS]
  · isplitr; · iexact HR
    isplitl [HcS]; · iexact HcS
    isplitl [HO] <;> iassumption
  iintro ⟨HO, HzS, Hc⟩
  iapply (wait_cell G K c (true, hi t) (2 - t.val) (by show 2 + (t.val + 3) + _ < 8; omega) sR src src (by rw [hR]; rfl) (hsE ▸ credit_chunk _)) $$ [HcR HO HaR]
  · isplitr; · iexact HR
    isplitl [HcR]; · iexact HcR
    isplitl [HO] <;> iassumption
  iintro ⟨HO, HzR, Hpay⟩
  ihave Hp := (show payAt G c false (some (some (true, hi t))) ⊢ iprop(chPts c (ck c t.val) (finalOut G) ∗ fwd c (hi t)) from Entails.of_eq (by
    show recvPay G c (hi t) = _
    unfold recvPay
    rw [landed_hi])) $$ Hpay
  icases Hp with ⟨Hl, Hf⟩
  iapply Hk
  isplitl [HzS HzR]; · (isplitl [HzS] <;> iassumption)
  isplitl [Hc]; · iapply (show payAt G c false (some (some (false, hi t))) ⊢ chPts c (ck c (t.val + 3)) (finalOut G) from Entails.of_eq (sendPay_hi G c t)); iexact Hc
  isplitl [Hl]; · iexact Hl
  isplitl [Hf] <;> iassumption

end Cert.KernelIdealProof
-- ==== Proof.Body.lean ====
/-
# `Body`: one device's run, from its barrier signals to its last wait
-/
module

public import proofs.«01_k».proof.Proof.Exchange

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the kernel's words point -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = nxt c := by revert c; decide +kernel

theorem off97_eq (c : Dev nD) (t : Fin 3) : k0_off97 c (BitVec.ofNat 32 t.val) = ![512 * (ck c t.val).val, 0] := by
  revert c t; decide +kernel
theorem off98_eq (c : Dev nD) (t : Fin 3) : k0_off98 c (BitVec.ofNat 32 t.val) = ![512 * (ck c (t.val + 1)).val, 0] := by
  revert c t; decide +kernel
theorem off99_eq (c : Dev nD) (t : Fin 3) : k0_off99 c (BitVec.ofNat 32 t.val) = ![512 * (ck c (t.val + 3)).val, 0] := by
  revert c t; decide +kernel

/-! ## The output in chunks, the landing buffer in slots -/

abbrev outPts (c : Dev nD) (f : S2048x1024.Idx → Elt F .bf16) : sProp 𝕄 :=
  ((outM.view.loc (c : Thread nD τ)) ↦{fullShare} (f : Buf (Elt F) (outM.view.loc (c : Thread nD τ))))
abbrev comPts (c : Dev nD) (f : S3x512x1024.Idx → Elt F .bf16) : sProp 𝕄 :=
  ((comM.view.loc (c : Thread nD τ)) ↦{fullShare} (f : Buf (Elt F) (comM.view.loc (c : Thread nD τ))))

theorem chSet_cover : (Finset.univ : Finset (Fin 4)).biUnion chSet = Finset.univ := by
  refine Finset.eq_univ_of_forall fun x => ?_
  have h0 : (x 0).val < 2048 := (x 0).isLt
  exact Finset.mem_biUnion.mpr ⟨⟨(x 0).val / 512, by omega⟩, Finset.mem_univ _, mem_chSet.mpr rfl⟩
theorem slSet_cover : (Finset.univ : Finset (Fin 3)).biUnion slSet = Finset.univ := by
  refine Finset.eq_univ_of_forall fun x => ?_
  have h0 : (x 0).val < 3 := (x 0).isLt
  exact Finset.mem_biUnion.mpr ⟨⟨(x 0).val, h0⟩, Finset.mem_univ _, mem_slSet.mpr rfl⟩
theorem chSet_disjoint : ((Finset.univ : Finset (Fin 4)) : Set (Fin 4)).PairwiseDisjoint chSet := by
  intro a _ b _ hab
  refine Finset.disjoint_left.mpr fun x hx hx' => hab (Fin.ext ?_)
  rw [← mem_chSet.mp hx, ← mem_chSet.mp hx']
theorem slSet_disjoint : ((Finset.univ : Finset (Fin 3)) : Set (Fin 3)).PairwiseDisjoint slSet := by
  intro a _ b _ hab
  refine Finset.disjoint_left.mpr fun x hx hx' => hab (Fin.ext ?_)
  rw [← mem_slSet.mp hx, ← mem_slSet.mp hx']

theorem out_chunks (c : Dev nD) (f : S2048x1024.Idx → Elt F .bf16) :
    (outPts c f : sProp 𝕄) = iprop(chPts c (ck c 0) f ∗ chPts c (ck c 1) f ∗ chPts c (ck c 2) f ∗ chPts c (ck c 3) f) := by
  have h := pointsTo_biUnion (ℓ := outM.view.loc (c : Thread nD τ)) (q := fullShare) (Ix := Unit) (Name := ℕ) (U := UU) (Lvl := ℕ)
    (f := (f : Buf (Elt F) (outM.view.loc (c : Thread nD τ)))) Finset.univ chSet chSet_disjoint
  rw [chSet_cover] at h
  refine h.trans ?_
  rw [bigSep_univ_eq_bigSepL [ck c 0, ck c 1, ck c 2, ck c 3] (by clear h; revert c; decide) (by clear h; revert c; decide)]
  simp only [bigSepL_cons_cons, bigSepL_singleton]
  unfold chPts
  simp only [chunkM_set]
  rfl

theorem com_slots (c : Dev nD) (f : S3x512x1024.Idx → Elt F .bf16) :
    (comPts c f : sProp 𝕄) = iprop(slPts c 0 f ∗ slPts c 1 f ∗ slPts c 2 f) := by
  have h := pointsTo_biUnion (ℓ := comM.view.loc (c : Thread nD τ)) (q := fullShare) (Ix := Unit) (Name := ℕ) (U := UU) (Lvl := ℕ)
    (f := (f : Buf (Elt F) (comM.view.loc (c : Thread nD τ)))) Finset.univ slSet slSet_disjoint
  rw [slSet_cover] at h
  refine h.trans ?_
  rw [bigSep_univ_eq_bigSepL [(0 : Fin 3), 1, 2] (by decide) (by decide)]
  simp only [bigSepL_cons_cons, bigSepL_singleton]
  unfold slPts
  simp only [slotM_set]
  rfl

theorem com_open (c : Dev nD) : iprop(∃ f, comPts (F := F) c f) ⊢ iprop(slAny (F := F) c 0 ∗ slAny c 1 ∗ slAny c 2) := by
  unfold slAny
  iintro ⟨%f, H⟩
  ihave H := (Entails.of_eq (com_slots c f)) $$ H
  icases H with ⟨H0, H1, H2⟩
  isplitl [H0]; · iexists f; iexact H0
  isplitl [H1]; · iexists f; iexact H1
  iexists f; iexact H2

theorem slPts_congr (c : Dev nD) (t : Fin 3) (f g : S3x512x1024.Idx → Elt F .bf16) (h : ∀ x, (x 0).val = t.val → f x = g x) :
    slPts c t f = slPts c t g := by
  unfold slPts
  exact pointsTo_congr fun x hx => h x (mem_slSet.mp (by rw [← slotM_set]; exact hx))

theorem com_close (c : Dev nD) : iprop(slAny (F := F) c 0 ∗ slAny c 1 ∗ slAny c 2) ⊢ iprop(∃ f, comPts (F := F) c f) := by
  unfold slAny
  iintro ⟨⟨%f0, H0⟩, ⟨%f1, H1⟩, ⟨%f2, H2⟩⟩
  let g : S3x512x1024.Idx → Elt F .bf16 := fun x => if (x 0).val = 0 then f0 x else if (x 0).val = 1 then f1 x else f2 x
  iexists g
  iapply (Entails.of_eq (com_slots c g).symm)
  isplitl [H0]
  · iapply (Entails.of_eq (slPts_congr c 0 f0 g fun x hx => by
      have h : (x 0).val = 0 := hx
      simp only [g, h, if_true])); iexact H0
  isplitl [H1]
  · iapply (Entails.of_eq (slPts_congr c 1 f1 g fun x hx => by
      have h : (x 0).val = 1 := hx
      simp only [g, h, if_true]; rfl)); iexact H1
  · iapply (Entails.of_eq (slPts_congr c 2 f2 g fun x hx => by
      have h : (x 0).val = 2 := hx
      simp only [g, h]; rfl)); iexact H2

/-! ## The run -/

variable (V : Dev nD → S2048.Idx → BitVec 32) (T : Dev nD → S16384x1024.Idx → Elt F .f32)

/-- What device `c` brings to the exchange: its rows of the gathered result, rounded. -/
def gath (c : Dev nD) : S2048x1024.Idx → Elt F .bf16 := k0_pay3 (partVal c (V c) (T c) (k0_pay2 k0_pay1))

/-- What a device starts with, besides its index and output buffers. -/
def bodyRes (K : Dev nD × KI → ℕ) (c : Dev nD) : sProp 𝕄 :=
  iprop(records (gath V T) K ∗ atPos ER (barCell c) 0 ∅ 0 ∗ dutyTok ER (barCell (nxt c)) 0 false ∗ dutyTok ER (barCell (prv c)) 0 true
    ∗ cred (tallyAt (barCell c) () 2) ∗ (bigSep Finset.univ fun t => stepRes c t)
    ∗ tabPts c (T c) ∗ (∃ f, partPts c f) ∗ (∃ f, comPts c f) ∗ semVal ((c : Thread nD τ), .dma cc0_scratch2.sem) 0)

def bodyEnd (c : Dev nD) : sProp 𝕄 :=
  iprop(tabPts c (T c) ∗ (∃ f, partPts c f) ∗ (∃ f, comPts c f) ∗ semVal ((c : Thread nD τ), .dma cc0_scratch2.sem) 0
    ∗ semVal (barCell c) 0 ∗ (bigSep Finset.univ fun t => stepEnd c t))

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem out_written (c : Dev nD) (f : S2048x1024.Idx → Elt F .bf16) :
    (outM.access (Rect.unit (s := S2048x1024) ![0, 0] S2048x1024.size inb_S2048x1024_S2048x1024_0_0)).write (Elt F) f
      (k0_pay3 (partM.view.readAt (Elt F) (Rect.unit (s := S2048x1024) ![0, 0] S2048x1024.size inb_S2048x1024_S2048x1024_0_0).toLoadRect
        (partVal c (V c) (T c) (k0_pay2 k0_pay1)))) Finset.univ = gath V T c := by
  have hz : (![0, 0] : Fin 2 → ℕ) = fun _ => 0 := by funext a; fin_cases a <;> rfl
  have hr : partM.view.readAt (Elt F) (Rect.unit (s := S2048x1024) ![0, 0] S2048x1024.size inb_S2048x1024_S2048x1024_0_0).toLoadRect
      (partVal c (V c) (T c) (k0_pay2 k0_pay1)) = partVal c (V c) (T c) (k0_pay2 k0_pay1) :=
    Memref.readAt_unit_zero (Elt F) cc0_scratch0 hz _ _
  rw [hr]
  exact Memref.write_access_unit_zero_univ (Elt F) cc0_stg1_0 hz _ f _

theorem fwd_two (c : Dev nD) : fwd (F := F) c 2 ⊢ iprop(passHi (F := F) c 0 ∗ leave (nxt c) 0) := by
  unfold fwd passHi
  rw [prv3]
  iintro ⟨H1, H2, H3⟩
  isplitl [H1 H2]; · (isplitl [H1] <;> iassumption)
  iexact H3
theorem fwd_three (c : Dev nD) : fwd (F := F) c 3 ⊢ iprop(passHi (F := F) c 1 ∗ leave (nxt c) 1) := by
  unfold fwd passHi
  rw [prv3]
theorem fwd_four (c : Dev nD) : fwd (F := F) c 4 ⊢ leave (nxt c) 2 := by
  unfold fwd
  rw [prv3]

set_option maxHeartbeats 4000000 in
theorem body_run (K : Dev nD × KI → ℕ) (c : Dev nD) (Kt : PUnit → sProp 𝕄) :
    iprop(bodyRes V T K c ∗ (∃ W, owes (c : Thread nD τ) (O₀ c) W) ∗ idxPts c (V c) ∗ (∃ f, outPts c f)
        ∗ ((bodyEnd T c ∗ (∃ W, owes (c : Thread nD τ) 0 W) ∗ idxPts c (V c) ∗ outPts c (finalOut (gath V T))) -∗ Kt ⟨⟩))
      ⊢ wp frame (wpE (defs₀ (F := F)) 𝒱₀ (c : Thread nD τ) none) Set.univ
          (cc0_body (F := F) idxM (Memref.isWhole_whole _) tabM (Memref.isWhole_whole _) outM (Memref.isWhole_whole _) partM (Memref.isWhole_whole _)
            comM (Memref.isWhole_whole _) cc0_scratch2 cc0_scratch3 cc0_scratch4) Kt := by
  rw [cc0_body_eq_skeleton]
  unfold cc0_body_skel
  rw [k0_part1_eq_skeleton]
  unfold k0_part1_skel
  simp only [semSignalWord, Prog.lift, Prog.bind_op, Prog.pure_eq_ret, Prog.bind_ret, bind_assoc, wp_deviceId, dev1_eq, dev2_eq]
  unfold bodyRes
  iintro ⟨⟨#HR, HatB, HtN, HtP, HcB, HS, HT, HP, HC, HD⟩, ⟨%W, HO⟩, Hi, Hout, Hk⟩
  iapply (Rounds.wp_signal 𝒱₀ ER (ringRd (gath V T)) (c : Thread nD τ) none (dst := (prv c : Thread nD τ)) (κ := K (prv c, none))
      (d := true) (by rw [show ((prv c : Thread nD τ), SemLoc.reg barS) = barCell (prv c) from rfl, duties_cell]; exact Finset.mem_univ _)
      ((amount_cell (gath V T) (prv c) none true).trans (by decide)) () (O₁ c) rfl) $$ [HO HtP HC]
  · isplitr; · iapply (inv_at (gath V T) K (prv c, none)); iexact HR
    isplitl [HO]; · iexact HO
    isplitl [HtP]; · iexact HtP
    isplitl [HC]
    · iapply (BIBase.Entails.trans (com_open c) (Entails.of_eq (by
        refine Eq.trans ?_ (payload_cell (gath V T) (prv c) none true).symm
        show _ = barPay (prv c)
        unfold barPay
        rw [nxt_prv])))
      iexact HC
    iapply (reached_at (gath V T) K (prv c, none)); iexact HR
  iintro HO
  iapply (Rounds.wp_signal 𝒱₀ ER (ringRd (gath V T)) (c : Thread nD τ) none (dst := (nxt c : Thread nD τ)) (κ := K (nxt c, none))
      (d := false) (by rw [show ((nxt c : Thread nD τ), SemLoc.reg barS) = barCell (nxt c) from rfl, duties_cell]; exact Finset.mem_univ _)
      ((amount_cell (gath V T) (nxt c) none false).trans (by decide)) () (orem c 6) rfl) $$ [HO HtN]
  · isplitr; · iapply (inv_at (gath V T) K (nxt c, none)); iexact HR
    isplitl [HO]; · iexact HO
    isplitl [HtN]; · iexact HtN
    isplitr
    · iapply (show iprop(emp) ⊢ (ringRd (gath V T)).payload ((nxt c : Thread nD τ), SemLoc.reg barS) 0 false from
        Entails.of_eq (payload_cell (gath V T) (nxt c) none false).symm)
      iempintro
    iapply (reached_at (gath V T) K (nxt c, none)); iexact HR
  iintro HO
  iapply (part2_spec c (V c) (T c) (orem c 6) _ k0_pay1) $$ [Hi HO HT HP HD]
  · isplitl [Hi]; · iexact Hi
    isplitr
    · iapply (mayWait_rem c 6 (.dma cc0_scratch2.sem) 0 (by rw [kOf_none csem_ne_dma]; exact Nat.le_refl _) (by decide))
      iapply (levels_at (gath V T) K); iexact HR
    isplitl [HO]; · iexists W; iexact HO
    isplitl [HT]; · iexact HT
    isplitl [HP] <;> iassumption
  iintro ⟨HK, HG⟩
  iapply (part3_spec c (V c) (T c) (k0_pay2 k0_pay1) (orem c 6) _ _) $$ HG
  iintro HG
  iapply (part4_spec c (V c) (T c) (k0_pay2 k0_pay1) (orem c 6) _ _) $$ HG
  iintro HG
  rw [k0_part5_eq_skeleton]
  unfold k0_part5_skel
  simp only [bind_assoc]
  iapply (last_loops c (V c) (T c) (k0_pay2 k0_pay1) (orem c 6)) $$ [HK HG]
  · isplitl [HK] <;> iassumption
  iintro ⟨Hi, HO, HT, HP, HD⟩
  simp only [semWaitWord, Prog.lift, Prog.bind_op, Prog.pure_eq_ret, Prog.bind_ret, bind_assoc]
  icases Hout with ⟨%f0, Hout⟩
  iapply (wp_load 𝒱₀ (c : Thread nD τ) none Set.univ (m := partM) (Finset.subset_univ _)) $$ HP
  iintro HP
  iapply (wp_load 𝒱₀ (c : Thread nD τ) none Set.univ (m := outM) (Finset.subset_univ _)) $$ Hout
  iintro Hout
  iapply (wp_store 𝒱₀ (c : Thread nD τ) none Set.univ (m := outM)
    (r := Rect.unit (s := S2048x1024) ![0, 0] S2048x1024.size inb_S2048x1024_S2048x1024_0_0) (Finset.subset_univ _)) $$ Hout
  iintro Hout
  rw [out_written V T c f0]
  icases HO with ⟨%W1, HO⟩
  iapply (Rounds.wp_wait_rest_token 𝒱₀ ER (ringRd (gath V T)) (c : Thread nD τ) none (κ := K (c, none))
      (wpE_semWait_eq 𝒱₀ (c : Thread nD τ) none Set.univ) (Set.mem_univ _) () (O := orem c 6) (W := W1) (R := 0) (m := 0) (T := ∅)
      (by rw [show ((c : Thread nD τ), SemLoc.reg barS) = barCell c from rfl, expect_bar]; decide)) $$ [HcB HO HatB]
  · isplitr; · iapply (inv_at (gath V T) K (c, none)); iexact HR
    isplitl [HcB]; · iexact HcB
    isplitl [HO]; · iexact HO
    isplitr
    · iapply (mayWait_rem c 6 (csem none) 1 (by rw [kOf_csem]; exact Nat.le_refl _) (by decide))
      iapply (levels_at (gath V T) K); iexact HR
    iexact HatB
  iintro ⟨HO, HatB, -, Hpay⟩
  ihave Hp := (show bigSep ((ringRd (gath V T)).duties ((c : Thread nD τ), SemLoc.reg barS) 0 \ ∅)
      (fun d => (ringRd (gath V T)).payload ((c : Thread nD τ), SemLoc.reg barS) 0 d) ⊢ iprop(emp ∗ barPay c) from
    Entails.of_eq (rest_bar (gath V T) c)) $$ Hpay
  unfold barPay
  icases Hp with ⟨-, Hs0, Hs1, Hs2⟩
  imod (Rounds.cell_close ER (ringRd (gath V T)) (Set.mem_univ (K (c, none))) (fun h => h) (R := 0 + 1) (duties_later (gath V T) (barCell c))) $$ [HatB] with HzB
  · isplitr; · iapply (inv_at (gath V T) K (c, none)); iexact HR
    iexact HatB
  ihave Hch := (Entails.of_eq (out_chunks c (gath V T c))) $$ Hout
  icases Hch with ⟨Hc0, Hc1, Hc2, Hc3⟩
  ihave HSS := (Entails.of_eq (bigSep_fin6 (fun t => stepRes (F := F) c t))) $$ HS
  icases HSS with ⟨HS0, HS1, HS2, HS3, HS4, HS5⟩
  rw [k0_part6_eq_skeleton, k0_part7_eq_skeleton, k0_part8_eq_skeleton, k0_part9_eq_skeleton, k0_part10_eq_skeleton,
    k0_part11_eq_skeleton, k0_part12_eq_skeleton]
  unfold k0_part6_skel k0_part7_skel k0_part8_skel k0_part9_skel k0_part10_skel k0_part11_skel k0_part12_skel
  simp only [Prog.lift, Prog.bind_op, Prog.pure_eq_ret, Prog.bind_ret, bind_assoc]
  iapply (lo_step (gath V T) K c _ 0 _ _ _ _ _ (dev3_eq c) (out_slice_eq _ _ (off97_eq c 0) _) rfl rfl rfl rfl (off98_eq c 0) rfl k0_pay4 (fun _ _ => rfl))
    $$ [HS0 Hc0 Hc1 Hs0 HO]
  · isplitr; · iexact HR
    isplitl [HS0]; · iexact HS0
    isplitl [Hc0]; · iexact Hc0
    isplitl [Hc1]; · iexact Hc1
    isplitl [Hs0]; · iexact Hs0
    isplitr; · unfold passLo; iempintro
    iexists _; iexact HO
  iintro ⟨HE0, Hc1, Hl0, Hf0, HO⟩
  iapply (lo_step (gath V T) K c _ 1 _ _ _ _ _ (dev4_eq c) (out_slice_eq _ _ (off97_eq c 1) _) rfl rfl rfl rfl (off98_eq c 1) rfl k0_pay5 (fun _ _ => rfl))
    $$ [HS1 Hc1 Hc2 Hs1 Hf0 HO]
  · isplitr; · iexact HR
    isplitl [HS1]; · iexact HS1
    isplitl [Hc1]; · iexact Hc1
    isplitl [Hc2]; · iexact Hc2
    isplitl [Hs1]; · iexact Hs1
    isplitl [Hf0]; · iapply (show fwd (F := F) c (lo 0) ⊢ passLo c 1 from BI.Entails.refl _); iexact Hf0
    iexact HO
  iintro ⟨HE1, Hc2, Hl1, Hf1, HO⟩
  iapply (lo_step (gath V T) K c _ 2 _ _ _ _ _ (dev5_eq c) (out_slice_eq _ _ (off97_eq c 2) _) rfl rfl rfl rfl (off98_eq c 2) rfl k0_pay6 (fun _ _ => rfl))
    $$ [HS2 Hc2 Hc3 Hs2 Hf1 HO]
  · isplitr; · iexact HR
    isplitl [HS2]; · iexact HS2
    isplitl [Hc2]; · iexact Hc2
    isplitl [Hc3]; · iexact Hc3
    isplitl [Hs2]; · iexact Hs2
    isplitl [Hf1]; · iapply (show fwd (F := F) c (lo 1) ⊢ passLo c 2 from BI.Entails.refl _); iexact Hf1
    iexact HO
  iintro ⟨HE2, Hc3, Hl2, Hf2, HO⟩
  ihave Hc3 := (show chPts c (ck c ((2 : Fin 3).val + 1)) (acc (gath V T) ((2 : Fin 3).val + 1) c) ⊢ chPts c (ck c 3) (finalOut (gath V T)) from
    Entails.of_eq (chPts_final (gath V T) c)) $$ Hc3
  ihave Hf2 := (show fwd c (lo 2) ⊢ iprop(passHi (F := F) c 0 ∗ leave (nxt c) 0) from fwd_two c) $$ Hf2
  icases Hf2 with ⟨Hp, Hv⟩
  iapply (hi_step (gath V T) K c _ 0 _ _ _ _ (dev6_eq c) (out_slice_eq _ _ (off99_eq c 0) _) (out_slice_eq _ _ (off99_eq c 0) _) rfl rfl)
    $$ [HS3 Hc3 Hv Hp HO]
  · isplitr; · iexact HR
    isplitl [HS3]; · iexact HS3
    isplitl [Hc3]; · iexact Hc3
    isplitl [Hv]; · iexact Hv
    isplitl [Hp]; · iexact Hp
    iexact HO
  iintro ⟨HE3, Hc3, Hc0, Hf3, HO⟩
  ihave Hf3 := (show fwd c (hi 0) ⊢ iprop(passHi (F := F) c 1 ∗ leave (nxt c) 1) from fwd_three c) $$ Hf3
  icases Hf3 with ⟨Hp, Hv⟩
  iapply (hi_step (gath V T) K c _ 1 _ _ _ _ (dev7_eq c) (out_slice_eq _ _ (off99_eq c 1) _) (out_slice_eq _ _ (off99_eq c 1) _) rfl rfl)
    $$ [HS4 Hc0 Hv Hp HO]
  · isplitr; · iexact HR
    isplitl [HS4]; · iexact HS4
    isplitl [Hc0]; · iapply (Entails.of_eq (congrArg (fun k => chPts c k (finalOut (gath V T))) (ck_period c 0).symm)); iexact Hc0
    isplitl [Hv]; · iexact Hv
    isplitl [Hp]; · iexact Hp
    iexact HO
  iintro ⟨HE4, Hc0, Hc1, Hf4, HO⟩
  ihave Hv := (show fwd c (hi 1) ⊢ leave (F := F) (nxt c) 2 from fwd_four c) $$ Hf4
  iapply (hi_step (gath V T) K c _ 2 _ _ _ _ (dev8_eq c) (out_slice_eq _ _ (off99_eq c 2) _) (out_slice_eq _ _ (off99_eq c 2) _) rfl rfl)
    $$ [HS5 Hc1 Hv HO]
  · isplitr; · iexact HR
    isplitl [HS5]; · iexact HS5
    isplitl [Hc1]; · iapply (Entails.of_eq (congrArg (fun k => chPts c k (finalOut (gath V T))) (ck_period c 1).symm)); iexact Hc1
    isplitl [Hv]; · iexact Hv
    isplitr; · unfold passHi; iempintro
    iexact HO
  iintro ⟨HE5, Hc1, Hc2, -, HO⟩
  rw [wp_ret]
  imodintro
  iapply Hk
  unfold bodyEnd
  isplitl [HT HP HD HzB HE0 HE1 HE2 HE3 HE4 HE5 Hl0 Hl1 Hl2]
  · isplitl [HT]; · iexact HT
    isplitl [HP]; · iexists _; iexact HP
    isplitl [Hl0 Hl1 Hl2]
    · iapply (com_close c)
      isplitl [Hl0]; · iexact Hl0
      isplitl [Hl1] <;> iassumption
    isplitl [HD]; · iexact HD
    isplitl [HzB]; · iexact HzB
    iapply (Entails.of_eq (bigSep_fin6 (fun t => stepEnd (F := F) c t)).symm)
    isplitl [HE0]; · iexact HE0
    isplitl [HE1]; · iexact HE1
    isplitl [HE2]; · iexact HE2
    isplitl [HE3]; · iexact HE3
    isplitl [HE4]; · iexact HE4
    iexact HE5
  isplitl [HO]; · iexact HO
  isplitl [Hi]; · iexact Hi
  iapply (Entails.of_eq (out_chunks c (finalOut (gath V T))).symm)
  isplitl [Hc0]; · iapply (Entails.of_eq (congrArg (fun k => chPts c k (finalOut (gath V T))) (ck_period c 0))); iexact Hc0
  isplitl [Hc1]; · iapply (Entails.of_eq (congrArg (fun k => chPts c k (finalOut (gath V T))) (ck_period c 1))); iexact Hc1
  isplitl [Hc2]; · iexact Hc2
  iexact Hc3

end Cert.KernelIdealProof
-- ==== Proof.Deal.lean ====
/-
# `Deal`: what every device is dealt before it runs

At launch each device's counters are zero and nothing is owed but what the devices owe each other. The counters become
the cells of the exchange, every device gets the tokens of the duties that it pays, and the credit of the cells that it
waits on.
-/
module

public import proofs.«01_k».proof.Proof.Body
public import proofs.«01_k».proof.Proof.Gen.KernelIdeal.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Separating over the cells of one device -/

theorem bigSep_option {α : Type} [Fintype α] [DecidableEq α] (Φ : Option α → sProp 𝕄) :
    bigSep Finset.univ Φ = iprop(Φ none ∗ bigSep Finset.univ fun a => Φ (some a)) := by
  have e : (Finset.univ : Finset (Option α)).erase none = Finset.univ.map Function.Embedding.some := by
    ext x; cases x <;> simp
  rw [bigSep_univ_split none, e, bigSep_map]
  rfl

theorem bigSep_cells (Φ : KI → sProp 𝕄) :
    bigSep Finset.univ Φ = iprop(Φ none ∗ (bigSep Finset.univ fun t => Φ (some (false, t))) ∗ bigSep Finset.univ fun t => Φ (some (true, t))) := by
  rw [bigSep_option, bigSep_univ_prod, bigSep_univ_eq_bigSepL [false, true] (by decide) (by decide), bigSepL_cons_cons, bigSepL_singleton]
  rfl

/-! ## The kernel's own semaphores -/

/-- The scoped semaphores: the gather's, and the twelve of the exchange. -/
def osem : Option (Bool × Fin 6) → SemLoc sig
  | none => .dma cc0_scratch2.sem
  | some x => csem (some x)

theorem ownSemFacts : Pipeline.OwnSemFacts cfg0.spec osem where
  isScoped := by decide +kernel
  inj := by
    have h : ∀ a b, osem a = osem b → a = b := by decide +kernel
    exact fun a b => h a b
  disj := by
    have h : ∀ k (w : Fin 2) (s : Fin (spec0 w).nbuf), osem k ≠ .dma ((spec0 w).sem s) := by decide +kernel
    exact h

abbrev gatherZero (c : Dev nD) : sProp 𝕄 := semVal ((c : Thread nD τ), .dma cc0_scratch2.sem) 0

theorem ownSems0_eq (c : Dev nD) :
    (Pipeline.ownSems0 (Ix := Unit) (Name := ℕ) (U := UU) (Lvl := ℕ) (Val := Elt F) (τ := τ) osem c : sProp 𝕄)
      = iprop(gatherZero c ∗ (bigSep Finset.univ fun t => semVal (sendCell c t) 0) ∗ bigSep Finset.univ fun t => semVal (recvCell c t) 0) := by
  unfold Pipeline.ownSems0
  rw [bigSep_option, bigSep_univ_prod, bigSep_univ_eq_bigSepL [false, true] (by decide) (by decide), bigSepL_cons_cons, bigSepL_singleton]
  rfl

theorem unscopedSems0_eq (c : Dev nD) : (unscopedSems0 c : sProp 𝕄) = semVal (barCell c) 0 := by
  unfold unscopedSems0
  rw [bigSep_eq_bigSepL_of_eq [SemLoc.reg barS] (by decide +kernel) (by decide)]
  rfl

/-! ## The tokens -/

def ringCells : Finset (GSem nD τ sig) := Finset.univ.map ⟨kcell, kcell_injective⟩

/-- The duties on a device's own cells: `false` on each, `true` on the barrier besides. -/
def tokOf (x : Dev nD × Option KI) : GSem nD τ sig × ℕ × Bool := match x.2 with
  | none => (barCell x.1, 0, true)
  | some k => (kcell (x.1, k), 0, false)

theorem tokOf_injective : Function.Injective tokOf := by
  rintro ⟨c, _ | k⟩ ⟨c', _ | k'⟩ h
  · have e : c = c' := congrArg Prod.fst (kcell_injective (congrArg Prod.fst h))
    rw [e]
  · exact absurd (congrArg (fun x => x.2.2) h) (show ¬ (true = false) by decide)
  · exact absurd (congrArg (fun x => x.2.2) h) (show ¬ (false = true) by decide)
  · have e := kcell_injective (congrArg Prod.fst h)
    have e1 : c = c' := congrArg Prod.fst e
    have e2 : k = k' := congrArg Prod.snd e
    rw [e1, e2]

def ringToks : Finset (GSem nD τ sig × ℕ × Bool) := Finset.univ.map ⟨tokOf, tokOf_injective⟩

/-- What the launch starts from: the pipeline's part, the exchange's, nothing for the gather's counters. -/
def u₀ : UU := (initOf (Pipeline.cells cfgs cellOf_inj) (Pipeline.launchToks cfgs cellOf_inj), (initOf ringCells ringToks, 1))

/-- The tokens of the duties on a device's own cells. -/
def ownToks (c : Dev nD) : sProp 𝕄 :=
  iprop(dutyTok ER (barCell c) 0 true ∗ bigSep Finset.univ fun k => dutyTok ER (kcell (c, k)) 0 false)

/-- The tokens of the duties that a device pays. -/
def payToks (c : Dev nD) : sProp 𝕄 :=
  iprop(dutyTok ER (barCell (nxt c)) 0 false ∗ dutyTok ER (barCell (prv c)) 0 true
    ∗ (bigSep Finset.univ fun t => dutyTok ER (sendCell c t) 0 false) ∗ bigSep Finset.univ fun t => dutyTok ER (recvCell (nxt c) t) 0 false)

theorem toks_around : (bigSep Finset.univ fun c : Dev nD => (ownToks c : sProp 𝕄)) ⊢ bigSep Finset.univ fun c : Dev nD => payToks c := by
  unfold ownToks payToks
  simp only [bigSep_cells, bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => bigSep Finset.univ fun t => (dutyTok ER (recvCell c t) 0 false : sProp 𝕄))]
  iintro ⟨H1, H2, H3, H4⟩
  isplitl [H2]; · iexact H2
  isplitl [H1]; · iexact H1
  isplitl [H3]; · iexact H3
  iexact H4

variable (G : Dev nD → S2048x1024.Idx → Elt F .bf16)

/-! ## The cells become shared -/

/-- What the launch element deals device `c`. -/
def dealt (c : Dev nD) : sProp 𝕄 :=
  iprop((bigSep Finset.univ fun k : KI => roundState ER (ringRd G) (kcell (c, k)) 0)
    ∗ (bigSep Finset.univ fun k : KI => iprop(atPos ER (kcell (c, k)) 0 ∅ 0 ∗ reached ER (kcell (c, k)) 0)) ∗ ownToks c)

theorem fund_ring : BI.own (ER (initOf ringCells ringToks)) ⊢ (|==> bigSep Finset.univ (dealt G) : sProp 𝕄) := by
  have hX (Φ : GSem nD τ sig → sProp 𝕄) :
      bigSep ringCells Φ = bigSep Finset.univ fun c : Dev nD => bigSep Finset.univ fun k : KI => Φ (kcell (c, k)) := by
    unfold ringCells
    rw [bigSep_map, bigSep_univ_prod]
    rfl
  have hT : bigSep ringToks (fun x => (dutyTok ER x.1 x.2.1 x.2.2 : sProp 𝕄)) = bigSep Finset.univ fun c : Dev nD => ownToks c := by
    unfold ringToks
    rw [bigSep_map, bigSep_univ_prod]
    exact bigSep_congr fun c _ => bigSep_option _
  iintro HX
  imod (Rounds.fund ER (ringRd G) ringCells ringToks) $$ HX with ⟨Hst, Hr, Hat, Htok⟩
  imodintro
  ihave Hst := (Entails.of_eq (hX fun g => roundState ER (ringRd G) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat Hr]
  · isplitl [Hat] <;> iassumption
  iexact Htok

/-- The cells' invariants, and that every cell reached round 0. -/
def marks (K : Dev nD × KI → ℕ) : sProp 𝕄 :=
  iprop((bigSep Finset.univ fun ck : Dev nD × KI => cellInv ER (ringRd G) (K ck) (kcell ck))
    ∗ bigSep Finset.univ fun ck : Dev nD × KI => reached ER (kcell ck) 0)

instance marks_persistent (K : Dev nD × KI → ℕ) : BI.Persistent (marks G K) := by unfold marks; infer_instance

/-- What is device `c`'s alone: its positions, its tokens, the gather's counter. -/
def alone (c : Dev nD) : sProp 𝕄 :=
  iprop((bigSep Finset.univ fun k : KI => atPos ER (kcell (c, k)) 0 ∅ 0) ∗ payToks c ∗ gatherZero c)

/-- What device `c` holds once the cells are shared. -/
def held (c : Dev nD) : sProp 𝕄 := iprop(∃ K, marks G K ∗ alone c)

theorem core_alloc (c : Dev nD) :
    iprop(Pipeline.ownSems0 (Ix := Unit) (Name := ℕ) (U := UU) (Lvl := ℕ) (Val := Elt F) (τ := τ) osem c ∗ unscopedSems0 c ∗ dealt G c)
      ⊢ |={Set.univ}=> iprop((bigSep Finset.univ fun k => iprop(∃ κ : ℕ, cellInv ER (ringRd G) κ (kcell (c, k))))
          ∗ (bigSep Finset.univ fun k => iprop(atPos ER (kcell (c, k)) 0 ∅ 0 ∗ reached ER (kcell (c, k)) 0)) ∗ ownToks c ∗ gatherZero c) := by
  rw [ownSems0_eq, unscopedSems0_eq]
  unfold dealt
  iintro ⟨⟨Hg, HS, HV⟩, HB, Hst, Hat, Htok⟩
  imod (show iprop((bigSep Finset.univ fun k : KI => semVal (kcell (c, k)) 0) ∗ bigSep Finset.univ fun k : KI => roundState ER (ringRd G) (kcell (c, k)) 0)
      ⊢ (|={Set.univ}=> bigSep Finset.univ fun k => iprop(∃ κ : ℕ, cellInv ER (ringRd G) κ (kcell (c, k))) : sProp 𝕄) from by
        rw [← bigSep_sep']
        exact (bigSep_mono fun k _ => (Rounds.body_intro ER (ringRd G) (kcell (c, k))).trans inv_alloc).trans (bigSep_fupd _ _)) $$ [HB HS HV Hst] with Hinv
  · isplitl [HB HS HV]
    · iapply (Entails.of_eq (bigSep_cells fun k : KI => (semVal (kcell (c, k)) 0 : sProp 𝕄)).symm)
      isplitl [HB]; · iexact HB
      isplitl [HS] <;> iassumption
    iexact Hst
  imodintro
  isplitl [Hinv]; · iexact Hinv
  isplitl [Hat]; · iexact Hat
  isplitl [Htok] <;> iassumption

theorem bigSep_beside {I : Type} [DecidableEq I] (S : Finset I) (R : sProp 𝕄) [BI.Persistent R] (Φ Ψ : I → sProp 𝕄)
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem held_intro (K : Dev nD × KI → ℕ) (c : Dev nD) : iprop(marks G K ∗ alone c) ⊢ held G c := by
  unfold held
  iintro H
  iexists K
  iexact H

theorem regroup :
    (bigSep Finset.univ fun c : Dev nD => iprop((bigSep Finset.univ fun k => iprop(∃ κ : ℕ, cellInv ER (ringRd G) κ (kcell (c, k))))
          ∗ (bigSep Finset.univ fun k => iprop(atPos ER (kcell (c, k)) 0 ∅ 0 ∗ reached ER (kcell (c, k)) 0)) ∗ ownToks c ∗ gatherZero c) : sProp 𝕄)
      ⊢ bigSep Finset.univ (held G) := by
  have hp (Φ : Dev nD × KI → sProp 𝕄) : (bigSep Finset.univ fun c : Dev nD => bigSep Finset.univ fun k : KI => Φ (c, k)) = bigSep Finset.univ Φ :=
    (bigSep_univ_prod Φ).symm
  simp only [bigSep_sep']
  rw [hp fun ck => iprop(∃ κ : ℕ, cellInv ER (ringRd G) κ (kcell ck)), hp fun ck => reached ER (kcell ck) 0]
  iintro ⟨HI, ⟨Hat, #HR⟩, Htok, Hg⟩
  ihave HK := (BI.bigSep_exists_pi Finset.univ (fun (ck : Dev nD × KI) (κ : ℕ) => (cellInv ER (ringRd G) κ (kcell ck) : sProp 𝕄))) $$ HI
  icases HK with ⟨%K, #HI⟩
  ihave Htok := (toks_around (F := F)) $$ Htok
  iapply (bigSep_beside Finset.univ (marks G K) alone (held G) (held_intro G K))
  isplitr
  · unfold marks
    isplitl; · iexact HI
    iexact HR
  · unfold alone
    simp only [bigSep_sep']
    isplitl [Hat]; · iexact Hat
    isplitl [Htok] <;> iassumption

/-- All devices' counters become cells at once. -/
theorem glob : (bigSep Finset.univ fun c => iprop(Pipeline.ownSems0 (Ix := Unit) (Name := ℕ) (U := UU) (Lvl := ℕ) (Val := Elt F) (τ := τ) osem c
      ∗ unscopedSems0 c ∗ dealt G c) : sProp 𝕄)
    ⊢ |={Set.univ}=> bigSep Finset.univ (held G) :=
  ((bigSep_mono fun c _ => core_alloc G c).trans (bigSep_fupd _ _)).trans (BI.fupd_mono (regroup G))

/-! ## The credit -/

theorem cell_iff (a b : Dev nD) (k k' : KI) : kcell (a, k) = kcell (b, k') ↔ a = b ∧ k = k' :=
  ⟨fun h => ⟨congrArg Prod.fst (kcell_injective h), congrArg Prod.snd (kcell_injective h)⟩, fun ⟨h, h'⟩ => by rw [h, h']⟩

theorem orem_bar (d c : Dev nD) (n : ℕ) : orem d n (barCell c) () = 0 := by
  induction n with
  | zero => rfl
  | succ n ih =>
    unfold orem
    rw [Pi.add_apply, Finsupp.add_apply, ih, tallyAt_apply, if_neg fun h => Option.some_ne_none _ ((cell_iff _ _ _ _).mp h.1).2.symm]

theorem orem_recv (d c : Dev nD) (t : Fin 6) (n : ℕ) (hn : n ≤ 6) :
    orem d n (recvCell c t) () = if d = prv c ∧ 6 ≤ n + t.val then N else 0 := by
  induction n with
  | zero => rw [if_neg fun h => by have := t.isLt; omega]; rfl
  | succ n ih =>
    unfold orem
    rw [Pi.add_apply, Finsupp.add_apply, ih (by omega), tallyAt_apply]
    have e : (recvCell c t = recvCell (nxt d) ⟨5 - n, by omega⟩ ∧ () = ()) ↔ (d = prv c ∧ n + t.val = 5) := by
      rw [cell_iff]
      constructor
      · rintro ⟨⟨h1, h2⟩, -⟩
        have h3 : t.val = 5 - n := congrArg (fun k : KI => (k.getD (false, 0)).2.val) h2
        exact ⟨by rw [h1, prv_nxt], by omega⟩
      · rintro ⟨h1, h2⟩
        refine ⟨⟨by rw [h1, nxt_prv], ?_⟩, rfl⟩
        rw [show t = ⟨5 - n, by omega⟩ from Fin.ext (by show t.val = 5 - n; omega)]
    rw [if_congr e rfl rfl]
    by_cases h : d = prv c
    · by_cases h5 : n + t.val = 5
      · rw [if_neg (by omega), if_pos ⟨h, h5⟩, if_pos ⟨h, by omega⟩, Nat.zero_add]
      · have e5 : 6 ≤ n + t.val ↔ 6 ≤ n + 1 + t.val := by omega
        rw [if_neg (c := d = prv c ∧ n + t.val = 5) (fun x => h5 x.2), Nat.add_zero]
        exact if_congr (and_congr_right fun _ => e5) rfl rfl
    · rw [if_neg (fun x => h x.1), if_neg (fun x => h x.1), if_neg (fun x => h x.1)]

theorem owed_bar (d c : Dev nD) : O₀ d (barCell c) () = (if d = prv c then 1 else 0) + (if d = nxt c then 1 else 0) := by
  have e1 : (barCell c = barCell (nxt d) ∧ () = ()) ↔ d = prv c := by
    rw [cell_iff]
    exact ⟨fun h => by rw [h.1.1, prv_nxt], fun h => ⟨⟨by rw [h, nxt_prv], rfl⟩, rfl⟩⟩
  have e2 : (barCell c = barCell (prv d) ∧ () = ()) ↔ d = nxt c := by
    rw [cell_iff]
    exact ⟨fun h => by rw [h.1.1, nxt_prv], fun h => ⟨⟨by rw [h, prv_nxt], rfl⟩, rfl⟩⟩
  unfold O₀ O₁
  rw [Pi.add_apply, Finsupp.add_apply, Pi.add_apply, Finsupp.add_apply, orem_bar, tallyAt_apply, tallyAt_apply, if_congr e1 rfl rfl,
    if_congr e2 rfl rfl, Nat.zero_add]

theorem owed_recv (d c : Dev nD) (t : Fin 6) : O₀ d (recvCell c t) () = if d = prv c then N else 0 := by
  have hne (a : Dev nD) : ¬ (recvCell c t = barCell a ∧ () = ()) := fun h => Option.some_ne_none _ ((cell_iff _ _ _ _).mp h.1).2
  unfold O₀ O₁
  rw [Pi.add_apply, Finsupp.add_apply, Pi.add_apply, Finsupp.add_apply, orem_recv d c t 6 le_rfl, tallyAt_apply, tallyAt_apply,
    if_neg (hne _), if_neg (hne _), Nat.add_zero]
  exact if_congr (by simp) rfl rfl

theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _),
    if_pos (Finset.mem_univ _)]

theorem launch_recv (c : Dev nD) (t : Fin 6) :
    tallyOn (recvCell c t) (launchCredit (Pipeline.owing O₀) 0 (recvCell c t)) = (tallyAt (recvCell c t) () N : CellTallies nD τ sig Unit) := by
  unfold tallyAt
  refine congrArg _ (Finsupp.ext fun u => ?_)
  cases u
  rw [Pipeline.launchCredit_owing, Finsupp.single_eq_same, Finset.sum_congr rfl fun d _ => owed_recv d c t,
    Finset.sum_ite_eq' Finset.univ (prv c) fun _ => N, if_pos (Finset.mem_univ _)]

theorem creds (c : Dev nD) :
    (Pipeline.launchCred O₀ c : sProp 𝕄) ⊢ iprop(cred (tallyAt (barCell c) () 2) ∗ bigSep Finset.univ fun t => cred (tallyAt (recvCell c t) () N)) := by
  have h : (Pipeline.launchCred O₀ c : sProp 𝕄)
      ⊢ bigSep (Finset.univ.map ⟨csem, csem_injective⟩) fun sm : SemLoc sig =>
          cred (tallyOn ((c : Thread nD τ), sm) (launchCredit (Pipeline.owing O₀) 0 ((c : Thread nD τ), sm))) := by
    unfold Pipeline.launchCred
    exact bigSep_subset (Finset.subset_univ _)
  refine h.trans ?_
  rw [bigSep_map, bigSep_cells]
  refine sep_mono (Entails.of_eq (congrArg cred (launch_bar c))) (sep_elim_right.trans ?_)
  exact bigSep_mono fun t _ => Entails.of_eq (congrArg cred (launch_recv c t))

/-! ## Ready to run -/

/-- Each step's tokens, positions and credit, put together. -/
theorem steps_intro (c : Dev nD) :
    iprop((bigSep Finset.univ fun t => dutyTok ER (sendCell c t) 0 false) ∗ (bigSep Finset.univ fun t => dutyTok ER (recvCell (nxt c) t) 0 false)
        ∗ (bigSep Finset.univ fun t => atPos ER (sendCell c t) 0 ∅ 0) ∗ (bigSep Finset.univ fun t => atPos ER (recvCell c t) 0 ∅ 0)
        ∗ (bigSep Finset.univ fun t => cred (tallyAt (recvCell c t) () N)))
      ⊢ (bigSep Finset.univ fun t => stepRes (F := F) c t : sProp 𝕄) := by
  unfold stepRes
  simp only [bigSep_sep']
  exact BI.Entails.refl _

end Cert.KernelIdealProof
-- ==== Proof.Launch.lean ====
/-
# `Launch`: the kernel launched on the four devices

The index array comes in through the pipeline, the table stays where it is, the result goes out through the pipeline.
`run_main` says what every run ends with: the result of `finalOut` on each device, the table and the indices as they
were, every counter at zero.
-/
module

public import proofs.«01_k».proof.Proof.Deal
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- The indices as device `c` reads them, and its block of the table. -/
def idxAt (c : Dev nD) : S2048.Idx → BitVec 32 := (win0_0.blk (0 : Fin 1)).view.read (Elt F) (m ((c : Thread nD τ).loc main_arg1))
def tabAt (c : Dev nD) : S16384x1024.Idx → Elt F .f32 := m ((c : Thread nD τ).loc main_arg0)

/-- Each device's gathered part, and the exchange's result, which is the same on every device. -/
abbrev part : Dev nD → S2048x1024.Idx → Elt F .bf16 := gath (idxAt m) (tabAt m)
def total : S2048x1024.Idx → Elt F .bf16 := finalOut (part m)

/-! ## The pipeline's proof data -/

/-- What a device starts from and what it ends with, besides the windows. -/
def Φ₀ (c : Dev nD) : sProp 𝕄 := iprop(∃ K, bodyRes (idxAt m) (tabAt m) K c)
def Φ₁ (c : Dev nD) : sProp 𝕄 := bodyEnd (tabAt m) c

def dats (_ : Fin 1) (c : Dev nD) : Dat τ (Elt F) Unit ℕ UU ℕ cfg0 c where
  A w := m ((cfg0.win w).arr.view.loc (c : Thread nD τ))
  after w _ := match w with
    | ⟨0, _⟩ => idxAt m c
    | ⟨1, _⟩ => total m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 : (cfg0.win (0 : Fin 2)).fetch t0_0 = true := rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-! ## The body between the windows -/

abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def before (c : Dev nD) : sProp 𝕄 :=
  iprop(Φ₀ m c ∗ (dats m 0 c).owesAt () (t0_0 : Fin cfg0.N).castSucc
    ∗ (∃ d, holds c cc0_stg0_0 ((dats m 0 c).before (0 : Fin 2) t0_0 d))
    ∗ (∃ d, holds c cc0_stg1_0 ((dats m 0 c).before (1 : Fin 2) t0_0 d)))

def after (c : Dev nD) : sProp 𝕄 :=
  iprop(Φ₁ m c ∗ (dats m 0 c).owesAt () (t0_0 : Fin cfg0.N).succ ∗ holds c cc0_stg0_0 (idxAt m c) ∗ holds c cc0_stg1_0 (total m))

set_option maxRecDepth 4000 in
theorem body_between (c : Dev nD) :
    before m c ⊢ wp frame (wpE (defs₀ (F := F)) 𝒱₀ (c : Thread nD τ) none) Set.univ
      (cc0_body (F := F) idxM (Memref.isWhole_whole _) tabM (Memref.isWhole_whole _) outM (Memref.isWhole_whole _) partM (Memref.isWhole_whole _)
        comM (Memref.isWhole_whole _) cc0_scratch2 cc0_scratch3 cc0_scratch4) (fun _ => after m c) := by
  unfold before Φ₀ Dat.owesAt Pipeline.owesWithin
  rw [show (dats m 0 c).owed (t0_0 : Fin cfg0.N).castSucc = O₀ c from rfl]
  iintro ⟨⟨%K, HB⟩, ⟨%W, %hW, HO⟩, ⟨%d0, %g0, %hg0, Hi⟩, ⟨%d1, %g1, %hg1, Ho⟩⟩
  have hi : g0 = idxAt m c := by
    rw [hg0]
    unfold Dat.before
    rw [if_pos fetch_0]
    rfl
  subst hi
  iapply (body_run (idxAt m) (tabAt m) K c fun _ => after m c)
  isplitl [HB]; · iexact HB
  isplitl [HO]; · iexists W; iexact HO
  isplitl [Hi]; · iexact Hi
  isplitl [Ho]; · iexists g1; iexact Ho
  unfold after Φ₁ Dat.owesAt Pipeline.owesWithin
  rw [show (dats m 0 c).owed (t0_0 : Fin cfg0.N).succ = 0 from rfl]
  iintro ⟨HE, ⟨%W', HO⟩, Hi, Ho⟩
  isplitl [HE]; · iexact HE
  isplitl [HO]
  · iexists W'
    isplitr; · ipureintro; exact fun _ _ => Or.inl trivial
    iexact HO
  isplitl [Hi]
  · iexists _
    isplitr; · (ipureintro; rfl)
    iexact Hi
  iexists _
  isplitr; · (ipureintro; rfl)
  iexact Ho

set_option maxRecDepth 4000 in
theorem body_obligation (c : Dev nD) : BodyObligation (dats (F := F) m 0 c) (defs₀ (F := F)) 𝒱₀ () Set.univ := fun t => by
  have ht : t = t0_0 := fin_N0 t
  rw [ht, show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  exact body_between m c

/-! ## Around the body -/

theorem share_eq (c : Dev nD) (w : Fin cfg0.W) : (dats m 0 c).share w = fullShare := by
  unfold Dat.share
  split <;> rfl

def start (c : Dev nD) : sProp 𝕄 :=
  iprop(held (part m) c ∗ cred (tallyAt (barCell c) () 2) ∗ (bigSep Finset.univ fun t => cred (tallyAt (recvCell c t) () N)) ∗ levAts L lv
    ∗ tabPts c (tabAt m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held (part m) c)
      ⊢ |={Set.univ}=> iprop(start m c ∗ emp) := by
  rw [show (Pipeline.unscopedRestP Pipeline.Prefetch.none cfg0.spec c (fun b => m ((c : Thread nD τ).loc b)) : sProp 𝕄) = tabPts c (tabAt m c) from
    (Pipeline.unscopedRestP_none _ _ _).trans (unscopedRest0_eq c _)]
  iintro ⟨HT, Hlev, Hcr, -, HG⟩
  ihave Hc := (creds (F := F) c) $$ Hcr
  icases Hc with ⟨HB, HN⟩
  imodintro
  unfold start
  isplitl
  · isplitl [HG]; · iexact HG
    isplitl [HB]; · iexact HB
    isplitl [HN]; · iexact HN
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start held alone payToks bodyRes marks records
  simp only [bigSep_cells fun k : KI => (atPos ER (kcell (c, k)) 0 ∅ 0 : sProp 𝕄)]
  iintro ⟨⟨⟨%K, ⟨#HI, #HR⟩, ⟨HaB, HaS, HaV⟩, ⟨HtN, HtP, HtS, HtV⟩, Hg⟩, HcB, HcV, #Hlev, HT⟩, -, Hp, Hc⟩
  iexists K
  isplitr
  · isplitr; · iexact HI
    isplitr; · iexact HR
    iexact Hlev
  isplitl [HaB]; · iexact HaB
  isplitl [HtN]; · iexact HtN
  isplitl [HtP]; · iexact HtP
  isplitl [HcB]; · iexact HcB
  isplitl [HtS HtV HaS HaV HcV]
  · iapply (steps_intro c)
    isplitl [HtS]; · iexact HtS
    isplitl [HtV]; · iexact HtV
    isplitl [HaS]; · iexact HaS
    isplitl [HaV] <;> iassumption
  isplitl [HT]; · iexact HT
  isplitl [Hp]; · iexact Hp
  isplitl [Hc]; · iexact Hc
  iexact Hg

/-- What a device keeps to the end: the barrier's counter at zero, and the table. -/
def kept (c : Dev nD) : sProp 𝕄 := iprop(unscopedSems0 c ∗ tabPts c (tabAt m c))

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq, ownSems0_eq]
  unfold Φ₁ bodyEnd kept stepEnd
  rw [unscopedSems0_eq, bigSep_sep']
  iintro ⟨HT, Hp, Hc, Hg, HB, HS, HV⟩
  isplitl [HT HB]
  · isplitl [HB] <;> iassumption
  isplitl [Hg HS HV]
  · isplitl [Hg]; · iexact Hg
    isplitl [HS] <;> iassumption
  isplitl [Hp]; · iexact Hp
  iexact Hc

theorem waits (c : Dev nD) : (levAts L lv : sProp 𝕄) ⊢ Pipeline.cellsWaits cfgs (dats m) () 0 c :=
  Pipeline.cellsWaits_intro cfgs (dats m) () 0 c fun w s t =>
    mayWait_stage c _ (by
        have h : ∀ (w : Fin 2) (s : Fin (spec0 w).nbuf) (k : KI), csem k ≠ .dma ((spec0 w).sem s) := by decide +kernel
        exact congrArg lvAt (kOf_none (h w s))) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg0) = m ((c : Thread nD τ).loc main_arg0)

/-- What is read of the state at the end, besides the windows. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

theorem kept_read (c : Dev nD) (s' : Phys nD τ sig (Elt F)) :
    iprop(kept m c ∗ emp ∗ SI s') ⊢ |={Set.univ}=> iprop(⌜QY m c s'.mem⌝ ∗ SI s' : sProp 𝕄) := by
  unfold kept
  iintro ⟨⟨Hu, HT⟩, -, HSI⟩
  ihave %hT := (SI_pointsTo_agree (st := s')) $$ [HSI HT]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hT i (Finset.mem_univ i)⟩
  iexact HSI

set_option maxRecDepth 8000 in
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (part m)) (G' := held (part m)) (u₀ := u₀)
    (hu₀ := by
      unfold u₀
      iintro Hu
      ihave H := (ownU_pair _ _) $$ Hu
      icases H with ⟨HP, HX⟩
      ihave HX := (show BI.own ((embR : Emb (UB × Counters) (MT nD τ sig Unit (Elt F) ℕ UU ℕ)) (initOf ringCells ringToks, 1))
        ⊢ iprop(BI.own (ER (F := F) (initOf ringCells ringToks)) ∗ BI.own (((Emb.inr : Emb Counters (UB × Counters)).trans embR) 1))
        from own_pair_emb _ _ _) $$ HX
      icases HX with ⟨HX, -⟩
      imod (fund_ring (part m)) $$ HX with HG
      imodintro
      isplitl [HP] <;> iassumption)
    (hglob := glob (part m))
    (hA := fun _ _ => rfl) (hpf := fun _ k => k.elim0)
    (X := start m) (Y := kept m) (Z := fun _ => iprop(emp))
    (hX := start_intro m ρ) (hin := phi0_intro m) (hout := phi1_exit m)
    (QY := QY m) (hY := kept_read m)
    (hQ := fun _ h hs => ⟨fun c => ⟨(h c).1, (h c).2.2.2⟩, sem_eq_zero hs fun c => (h c).2.2.1⟩)

end Cert.KernelIdealProof
-- ==== Proof.Words.lean ====
/-
# `Words`: which device holds the row an index names

For an index between 0 and 65535: device `c` holds its row exactly when `index / 16384 = c`, and there the row of the
device's block is `index % 16384`.
-/
module

public import proofs.«01_k».proof.Proof.Gather

@[expose] public section

noncomputable section

namespace Cert.KernelIdealProof

open Cert.KernelIdeal Cert.KernelIdeal.Gen
open Idealize.ShloMosaic

/-- The first row of device `c`'s block, as the kernel computes it. -/
def baseWord (c : Dev nD) : BitVec 32 := Scalar.muli (Scalar.remsi (Scalar.divsi (Dev.word c) 1#32) 4#32) 16384#32

theorem baseWord_isInt (c : Dev nD) : Affine.IsInt (baseWord c) (16384 * (c.val : Int)) := by
  have h : baseWord c = BitVec.ofNat 32 (16384 * c.val) := by revert c; decide
  have hc := c.isLt
  rw [h]
  exact Affine.ofNat _ ⟨by push_cast; rfl, by change c.val < 4 at hc; omega⟩

variable {w : BitVec 32} (h0 : 0 ≤ w.toInt) (h1 : w.toInt < 65536)

include h0 h1

/-- The index less the first row of the device's block. -/
theorem local_isInt (c : Dev nD) : Affine.IsInt (Scalar.subi w (baseWord c)) (w.toInt - 16384 * (c.val : Int)) := by
  have hc : c.val < 4 := c.isLt
  exact Affine.subi (Affine.word w) (baseWord_isInt c) ⟨rfl, by omega, by omega⟩

theorem own_iff (c : Dev nD) : own c w ↔ w.toInt.toNat / 16384 = c.val := by
  have hl := Affine.unique (Affine.word _) (local_isInt h0 h1 c)
  have hz : (0#32 : BitVec 32).toInt = 0 := by decide
  have hb : (16384#32 : BitVec 32).toInt = 16384 := by decide
  have key : own c w ↔ 0 ≤ w.toInt - 16384 * (c.val : Int) ∧ w.toInt - 16384 * (c.val : Int) < 16384 := by
    have e : own c w ↔ Scalar.cmpi .ne (Scalar.extui (IntOp.andi (IntOp.cmpi .sge (Scalar.subi w (baseWord c)) 0#32)
        (IntOp.cmpi .slt (Scalar.subi w (baseWord c)) 16384#32))) 0#32 = 1#1 := Iff.rfl
    rw [e, Scalar.guard_iff, IntOp.andi_eq_one, IntOp.cmpi_sge, IntOp.cmpi_slt, hl, hz, hb]
  rw [key]
  omega

theorem tblRow_val (c : Dev nD) (hc : own c w) : (tblRow c w).val = w.toInt.toNat % 16384 := by
  have hq := (own_iff h0 h1 c).1 hc
  have h : Affine.IsInt (Scalar.minsi 16383#32 (Scalar.maxsi 0#32 (Scalar.subi w (baseWord c)))) (w.toInt - 16384 * (c.val : Int)) :=
    Affine.minsi (Affine.ofNat (e := 16383) 16383 (by omega))
      (Affine.maxsi (Affine.ofNat (e := 0) 0 (by omega)) (local_isInt h0 h1 c) rfl) (by omega)
  exact Affine.nat_eq h _ (by omega)

end Cert.KernelIdealProof

end
-- ==== Proof.Value.lean ====
/-
# `Value`: the kernel's result, element by element

Of the four parts added up for a row, one is the row the index names, and the other three are zero.
-/
module

public import proofs.«01_k».proof.Proof.Launch
public import proofs.«01_k».proof.Proof.Words
public import Idealize.ShloMosaic.Lib.Layout
public import Idealize.ShloMosaic.Lib.IdealHost

@[expose] public section

noncomputable section

namespace Cert.KernelIdealProof

open Cert.KernelIdeal Cert.KernelIdeal.Gen
open Idealize.ShloMosaic Idealize.ShloMosaic.TcCoe Idealize.ShloMosaic.ValueIdx

section Windows

variable {F : FTy → Type} [FloatOps F] (m : (ℓ : Loc nD τ sig) → Buf (Elt F) ℓ)

/-- The index array is only read. -/
theorem finalA_in (c : Dev nD) : finalA m c (0 : Fin 2) = m ((c : Thread nD τ).loc main_arg1) :=
  (dats m 0 c).arrAt_in (0 : Fin 2) rfl _

/-- Either window's one block is its whole array. -/
theorem read_whole_block0 (f : S2048.Idx → BitVec 32) : (win0_0.blk (0 : Fin 1)).view.read (Elt F) f = f := by
  funext i
  refine congrArg f (funext fun a => Fin.ext ?_)
  match a with
  | ⟨0, _⟩ =>
    show 0 * 2048 + 1 * (i 0).val = (i 0).val
    omega
theorem read_whole_block1 (f : S2048x1024.Idx → Elt F .bf16) : (win0_1.blk (0 : Fin 1)).view.read (Elt F) f = f := by
  funext i
  refine congrArg f (funext fun a => Fin.ext ?_)
  match a with
  | ⟨0, _⟩ =>
    show 0 * 2048 + 1 * (i 0).val = (i 0).val
    omega
  | ⟨1, _⟩ =>
    show 0 * 1024 + 1 * (i 1).val = (i 1).val
    omega

/-- A device reads the index array whole. -/
theorem idxAt_eq (c : Dev nD) : idxAt m c = m ((c : Thread nD τ).loc main_arg1) := by
  unfold idxAt
  exact read_whole_block0 _

/-- The result array ends up holding the exchange's result. -/
theorem finalA_out (c : Dev nD) : finalA m c (1 : Fin 2) = total m := by
  have h : (win0_1.blk (0 : Fin 1)).view.read (Elt F) (finalA m c (1 : Fin 2)) = total m := by
    unfold finalA
    rw [show cfg0.N = ((0 : Fin 1) : Fin cfg0.N).val + 1 from rfl, (dats m 0 c).arrAt_succ (1 : Fin 2) (0 : Fin 1),
      show (cfg0.win (1 : Fin 2)).flush (0 : Fin 1) = true from by decide, if_pos rfl]
    exact View.read_write_univ _ _
  exact (read_whole_block1 _).symm.trans h

end Windows

section Sum

/-- A device's part of a row is the row it holds, or zero. -/
theorem gath_apply (V : Dev nD → S2048.Idx → BitVec 32) (T : Dev nD → S16384x1024.Idx → EReal) (c : Dev nD) (x : S2048x1024.Idx) :
    gath (F := Ideal) V T c x = if own c (wordAt (V c) (x 0)) then T c (tblAt (tblRow c (wordAt (V c) (x 0))) (x 1)) else 0 := by
  show (if own c (wordAt (V c) (x 0)) then T c (tblAt (tblRow c (wordAt (V c) (x 0))) (x 1)) else Ideal.ofBits .f32 0x00000000#32) = _
  rw [Ideal.ofBits_zero_f32]

/-- Three steps back from any device lead through every device, each once. -/
theorem prv_cover : ∀ c d : Dev nD, d = c ∨ d = prv c ∨ d = prv (prv c) ∨ d = prv (prv (prv c)) := by decide
theorem prv_distinct : ∀ c : Dev nD, c ≠ prv c ∧ c ≠ prv (prv c) ∧ c ≠ prv (prv (prv c)) ∧ prv c ≠ prv (prv c)
    ∧ prv c ≠ prv (prv (prv c)) ∧ prv (prv c) ≠ prv (prv (prv c)) := by decide

/-- The running sum of three steps, of parts that are zero but for one device's. -/
theorem acc_one (G : Dev nD → S2048x1024.Idx → EReal) (d : Dev nD) (x : S2048x1024.Idx) (h : ∀ c, c ≠ d → G c x = 0) (c : Dev nD) :
    acc (F := Ideal) G 3 c x = G d x := by
  show G c x + (G (prv c) x + (G (prv (prv c)) x + G (prv (prv (prv c))) x)) = G d x
  have hcase := prv_cover c d
  obtain ⟨n1, n2, n3, n4, n5, n6⟩ := prv_distinct c
  rcases hcase with rfl | rfl | rfl | rfl
  · rw [h _ n1.symm, h _ n2.symm, h _ n3.symm]; simp
  · rw [h _ n1, h _ n4.symm, h _ n5.symm]; simp
  · rw [h _ n2, h _ n4, h _ n6.symm]; simp
  · rw [h _ n3, h _ n5, h _ n6]; simp

/-- The exchange's result, when every device reads the same indices and its block of the one table. -/
theorem finalOut_apply (idx : S2048.Idx → BitVec 32) (table : (⟨2, ![65536, 1024]⟩ : Shape).Idx → EReal) (x : S2048x1024.Idx)
    (h0 : 0 ≤ (idx (ix1 (x 0))).toInt) (h1 : (idx (ix1 (x 0))).toInt < 65536) :
    finalOut (F := Ideal) (gath (F := Ideal) (fun _ => idx)
        (fun c => Layout.block ⟨2, ![16384, 1024]⟩ ⟨2, ![65536, 1024]⟩ 0 4 c table)) x
      = table (ix2 (n0 := 65536) (n1 := 1024) ⟨(idx (ix1 (x 0))).toInt.toNat, by omega⟩ (x 1)) := by
  set w := idx (ix1 (x 0)) with hw
  have hd : w.toInt.toNat / 16384 < 4 := by omega
  have hown : own (⟨w.toInt.toNat / 16384, hd⟩ : Dev nD) w := (own_iff h0 h1 _).2 rfl
  refine (acc_one _ (⟨w.toInt.toNat / 16384, hd⟩ : Dev nD) x (fun c hc => ?_) _).trans ?_
  · rw [gath_apply]
    exact if_neg fun h => hc (Fin.ext ((own_iff h0 h1 c).1 h).symm)
  · rw [gath_apply]
    refine (if_pos hown).trans ?_
    rw [Layout.block_apply]
    refine congrArg table ?_
    funext a
    refine Fin.ext ?_
    have hr : (tblRow (⟨w.toInt.toNat / 16384, hd⟩ : Dev nD) w).val = _ := tblRow_val h0 h1 _ hown
    match a with
    | ⟨0, _⟩ =>
      show w.toInt.toNat / 16384 * 16384 + (tblRow (⟨w.toInt.toNat / 16384, hd⟩ : Dev nD) w).val = w.toInt.toNat
      omega
    | ⟨1, _⟩ => rfl

end Sum

end Cert.KernelIdealProof

end
-- ==== Proof.Ref.lean ====
/-
# `Ref`: the reference, element by element

`table[idx]` of an index inside the table is the row it names: a negative index would be wrapped, and one past the end
clamped, but neither happens.
-/
module

public import proofs.«01_k».proof.Proof.Gen.ReferenceIdeal
public import Idealize.ShloMosaic.Lib.ValueIdx
public import Idealize.ShloMosaic.Lib.ValueIdxCore

@[expose] public section

noncomputable section

namespace Cert.ReferenceIdealProof

open Cert.ReferenceIdeal Cert.ReferenceIdeal.Gen
open Idealize.ShloMosaic Idealize.ShloMosaic.ValueIdx

/-- The numbers of the gather that takes whole rows. -/
abbrev takeRows : GatherDims S65536x1024 S2048x1 S2048x1024 := gather_S65536x1024_S2048x1_S2048x1024_1_0_n_n_0_1_11024

/-- The table row that row `y 0` of the result is taken from: its start index, read signed and clamped into the table. -/
theorem taken_row (idx : IVec S2048x1 32) (y : S2048x1024.Idx) :
    (GatherDims.operandIdx takeRows y idx 0).val = min (idx (ix2 (n0 := 2048) (n1 := 1) (y 0) 0)).toInt.toNat 65535 := by
  have at_column : GatherDims.siIdx takeRows y ⟨0, by decide⟩ = ix2 (n0 := 2048) (n1 := 1) (y 0) 0 := by
    funext b; fin_cases b <;> rfl
  exact congrArg (fun j => min (idx j).toInt.toNat 65535) at_column

/-- The column is the result's own. -/
theorem taken_column (idx : IVec S2048x1 32) (y : S2048x1024.Idx) : (GatherDims.operandIdx takeRows y idx 1).val = (y 1).val :=
  Nat.zero_add _

/-- Rows of a table taken at a column of start indices. -/
theorem gather_rows {α : Type} (x : S65536x1024.Idx → α) (idx : IVec S2048x1 32) (y : S2048x1024.Idx) :
    Host.gather takeRows x idx y
      = x (ix2 (n0 := 65536) (n1 := 1024)
          ⟨min (idx (ix2 (n0 := 2048) (n1 := 1) (y 0) 0)).toInt.toNat 65535, by omega⟩ (y 1)) := by
  refine congrArg x (funext fun a => Fin.ext ?_)
  match a with
  | ⟨0, _⟩ => exact taken_row idx y
  | ⟨1, _⟩ => exact taken_column idx y

/-- The start indices the reference gathers at: a negative index counted from the table's end. -/
def starts (idx : IVec S2048 32) : IVec S2048x1 32 :=
  broadcastInDim S2048x1 ![0] bcast_S2048_S2048x1_0
    (select (cmpi .slt idx (broadcastInDim S2048 ![] bcast_S_S2048 (constantI S_ 32 0#32)))
      (addi idx (broadcastInDim S2048 ![] bcast_S_S2048 (constantI S_ 32 65536#32))) idx)

theorem starts_apply (idx : IVec S2048 32) (i : Fin 2048) (h0 : 0 ≤ (idx (ix1 i)).toInt) :
    starts idx (ix2 (n0 := 2048) (n1 := 1) i 0) = idx (ix1 i) := by
  have hc : ¬ IntOp.cmpi .slt (idx (ix1 i)) 0#32 = 1#1 := by
    rw [IntOp.cmpi_slt, show (0#32 : BitVec 32).toInt = 0 from by decide]
    omega
  have e : starts idx (ix2 (n0 := 2048) (n1 := 1) i 0)
      = select (cmpi .slt idx (broadcastInDim S2048 ![] bcast_S_S2048 (constantI S_ 32 0#32)))
          (addi idx (broadcastInDim S2048 ![] bcast_S_S2048 (constantI S_ 32 65536#32))) idx (ix1 i) := by
    refine congrArg (select _ _ _) ?_
    funext a; fin_cases a; rfl
  rw [e]
  exact if_neg hc

variable {F : FTy → Type} [FloatOps F]

/-- The reference's result: the table's row, converted. -/
theorem ref_apply (table : S65536x1024.Idx → Elt F .f32) (idx : IVec S2048 32) (y : S2048x1024.Idx)
    (h0 : 0 ≤ (idx (ix1 (y 0))).toInt) (h1 : (idx (ix1 (y 0))).toInt < 65536) :
    truncf .bf16 (Host.gather gather_S65536x1024_S2048x1_S2048x1024_1_0_n_n_0_1_11024 table (starts idx)) bitsLt_bf16_f32 y
      = FloatOps.truncf .bf16 bitsLt_bf16_f32 (table (ix2 (n0 := 65536) (n1 := 1024) ⟨(idx (ix1 (y 0))).toInt.toNat, by omega⟩ (y 1))) := by
  refine congrArg (FloatOps.truncf .bf16 bitsLt_bf16_f32) ?_
  rw [gather_rows]
  refine congrArg table (congrArg (fun r => ix2 (n0 := 65536) (n1 := 1024) r (y 1)) (Fin.ext ?_))
  show min (starts idx (ix2 (n0 := 2048) (n1 := 1) (y 0) 0)).toInt.toNat 65535 = _
  have e := starts_apply idx (y 0) h0
  have e' := congrArg (fun v : BitVec 32 => min v.toInt.toNat 65535) e
  refine e'.trans ?_
  show min (idx (ix1 (y 0))).toInt.toNat 65535 = (idx (ix1 (y 0))).toInt.toNat
  omega

end Cert.ReferenceIdealProof

end
-- ==== Proof.lean ====
/-
# The proof of `Cert.Claim`

The frames come from one run of the kernel, written for any float values (`Proof/Launch.lean`), and from the
reference's own run. For the value, the kernel's result (`Proof/Value.lean`) and the reference's (`Proof/Ref.lean`) are
the same row of the table, element by element.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_rows_of_the_table_KernelIdeal
public import proofs.«01_k».proof.Proof.Gen.Pre_rows_of_the_table_ReferenceIdeal
public import proofs.«01_k».proof.Proof.Launch
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-! ## Frames -/

section Kernel

open Cert.KernelIdeal

variable {F : FTy → Type} [FloatOps F]

/-- A run of the kernel ends with both arguments as they were and every counter at zero. -/
theorem kernel_frame (m : (ℓ : Loc nD τ sig) → Buf (Elt F) ℓ) (ρ : Dev nD → PrngReg) :
    θ_run Cert.KernelIdeal.defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run Cert.KernelIdeal.defs _ _).mono
    (fun _ h => ⟨fun c => ⟨(h.1 c).2, ((h.1 c).1 (0 : Fin 2)).trans (Cert.KernelIdealProof.finalA_in m c)⟩, h.2⟩)
    (Cert.KernelIdealProof.run_main m ρ)

/-- It also ends with the exchange's result on every device. -/
theorem kernel_value (m : (ℓ : Loc nD τ sig) → Buf (Elt F) ℓ) (ρ : Dev nD → PrngReg) :
    θ_run Cert.KernelIdeal.defs (onTc (τ := τ) (main (F := F))) ⟨m, fun _ => 0, ρ⟩ fun r =>
      ∀ c : Dev nD, r.2.mem ((c : Thread nD τ).loc main_v1) = Cert.KernelIdealProof.total m
        ∧ r.2.mem ((c : Thread nD τ).loc main_arg0) = m ((c : Thread nD τ).loc main_arg0)
        ∧ r.2.mem ((c : Thread nD τ).loc main_arg1) = m ((c : Thread nD τ).loc main_arg1) :=
  (θ_run Cert.KernelIdeal.defs _ _).mono
    (fun _ h c => ⟨((h.1 c).1 (1 : Fin 2)).trans (Cert.KernelIdealProof.finalA_out m c), (h.1 c).2,
      ((h.1 c).1 (0 : Fin 2)).trans (Cert.KernelIdealProof.finalA_in m c)⟩)
    (Cert.KernelIdealProof.run_main m ρ)

end Kernel

set_option smartUnfolding false in
/-- The kernel and its idealization are printed as one text under two names, so a run of the one is a run of the other.
    The elaborator has to unfold both to see it, which the option lets it do. -/
theorem as_kernel {F : FTy → Type} [FloatOps F] {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run Cert.KernelIdeal.defs (onTc (τ := Cert.KernelIdeal.τ) (Cert.KernelIdeal.main (F := F))) s Q) :
    θ_run Cert.Kernel.defs (onTc (τ := Cert.Kernel.τ) (Cert.Kernel.main (F := F))) s Q := h

theorem frame_kernel : Cert.quiescent_Kernel := fun m ρ _ => as_kernel (kernel_frame (F := Bits) m ρ)

theorem frame_ideal : Cert.quiescent_KernelIdeal := fun m ρ _ => kernel_frame (F := Ideal) m ρ

theorem frame_ideal_pre : Cert.quiescent_KernelIdeal_pre_rows_of_the_table_KernelIdeal :=
  fun m ρ _ => kernel_frame (F := Ideal) m ρ

theorem frame_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem frame_ref_pre : Cert.quiescent_ReferenceIdeal_pre_rows_of_the_table_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The value -/

/-- What the precondition says of each index. -/
theorem index_range {x : FVec Ideal Cert.Pre_rows_of_the_table_KernelIdeal.S16384x1024 .f32}
    {idx : IVec Cert.Pre_rows_of_the_table_KernelIdeal.S2048 32}
    (h : Cert.Pre_rows_of_the_table_KernelIdeal.fn (F := Ideal) x idx = fun _ => 1#1) (i : Fin 2048) :
    0 ≤ (idx (ix1 i)).toInt ∧ (idx (ix1 i)).toInt < 65536 := by
  have hi : IntOp.andi (IntOp.cmpi .sge (idx (ix1 i)) 0#32) (IntOp.cmpi .slt (idx (ix1 i)) 65536#32) = 1#1 :=
    congrFun h (ix1 i)
  rw [IntOp.andi_eq_one, IntOp.cmpi_sge, IntOp.cmpi_slt, show (0#32 : BitVec 32).toInt = 0 from by decide,
    show (65536#32 : BitVec 32).toInt = 65536 from by decide] at hi
  exact hi

theorem value : Cert.algebraic_KernelIdeal_ReferenceIdeal_pre_rows_of_the_table_KernelIdeal := by
  intro m g m' g' hpre hargs
  refine ⟨Cert.KernelIdealProof.total m, kernel_value m g, ?_⟩
  refine (θ_run Cert.ReferenceIdeal.defs _ _).mono (fun r h => ⟨(h 0).1.trans ?_, (h 0).2⟩)
    (Cert.ReferenceIdeal.Value.run (F := Ideal) m' g')
  have hV : Cert.KernelIdealProof.idxAt m = fun _ => m' ((0 : Dev Cert.ReferenceIdeal.nD).tc.loc Cert.ReferenceIdeal.main_arg1) :=
    funext fun c => (Cert.KernelIdealProof.idxAt_eq m c).trans (hargs c).2
  have hT : Cert.KernelIdealProof.tabAt m = fun c => Layout.block ⟨2, ![16384, 1024]⟩ ⟨2, ![65536, 1024]⟩ 0 4 c
      (m' ((0 : Dev Cert.ReferenceIdeal.nD).tc.loc Cert.ReferenceIdeal.main_arg0)) :=
    funext fun c => (hargs c).1
  funext y
  have hr := index_range (hpre 0) (y 0)
  rw [(hargs 0).2] at hr
  refine (Cert.ReferenceIdealProof.ref_apply (F := Ideal) _ _ y hr.1 hr.2).trans ?_
  unfold Cert.KernelIdealProof.total Cert.KernelIdealProof.part
  rw [hV, hT]
  exact (Cert.KernelIdealProof.finalOut_apply _ _ y hr.1 hr.2).symm

/-! ## The claim -/

theorem claim : Cert.Claim :=
  ⟨Cert.Kernel.Gen.facts, Cert.KernelIdeal.Gen.facts, Cert.ReferenceIdeal.Gen.facts,
    Cert.Pre_rows_of_the_table_KernelIdeal.Gen.facts, Cert.Pre_rows_of_the_table_ReferenceIdeal.Gen.facts,
    frame_kernel, frame_ideal, frame_ideal_pre, frame_ref, frame_ref_pre, trivial, value⟩

end Cert.Proof

end
